-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2x512x2048 : Shape := ⟨3, ![2, 512, 2048]⟩
abbrev S4096x1024 : Shape := ⟨2, ![4096, 1024]⟩
abbrev S2 : Shape := ⟨1, ![2]⟩
abbrev S14 : Shape := ⟨1, ![14]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩
abbrev S1x128x2048 : Shape := ⟨3, ![1, 128, 2048]⟩
abbrev S128x2048 : Shape := ⟨2, ![128, 2048]⟩
abbrev S1x64x1024 : Shape := ⟨3, ![1, 64, 1024]⟩
abbrev S64x1024 : Shape := ⟨2, ![64, 1024]⟩
abbrev S1x256x2048 : Shape := ⟨3, ![1, 256, 2048]⟩
abbrev S256x2048 : Shape := ⟨2, ![256, 2048]⟩
abbrev S1x128x1024 : Shape := ⟨3, ![1, 128, 1024]⟩
abbrev S128x1024 : Shape := ⟨2, ![128, 1024]⟩
abbrev S1x512x2048 : Shape := ⟨3, ![1, 512, 2048]⟩
abbrev S512x2048 : Shape := ⟨2, ![512, 2048]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x320x2048 : Shape := ⟨3, ![1, 320, 2048]⟩
abbrev S320x2048 : Shape := ⟨2, ![320, 2048]⟩
abbrev S1x320x1024 : Shape := ⟨3, ![1, 320, 1024]⟩
abbrev S320x1024 : Shape := ⟨2, ![320, 1024]⟩
abbrev S1x32x2048 : Shape := ⟨3, ![1, 32, 2048]⟩
abbrev S32x2048 : Shape := ⟨2, ![32, 2048]⟩
abbrev S1x32x1024 : Shape := ⟨3, ![1, 32, 1024]⟩
abbrev S32x1024 : Shape := ⟨2, ![32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S2x512x2048, .f32⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_off1 (d0 : Dev nD) (c0_i32_11 : BitVec 32) : Fin 3 → Nat :=
  let c0_i32_12 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v18 : BitVec 32 := Scalar.addi v8 c0_i32_11
  let c0_i32_17 : BitVec 32 := 0#32
  ![0, v18.toNat, 0]
def k0_off2 (d0 : Dev nD) (c64_i32 : BitVec 32) : Fin 3 → Nat :=
  let c0_i32_18 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v25 : BitVec 32 := Scalar.addi v8 c64_i32
  let c0_i32_23 : BitVec 32 := 0#32
  ![0, v25.toNat, 0]
def k0_dev3 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v45 : BitVec 32 := Scalar.muli v6 c2_i32_38
  let v46 : BitVec 32 := Scalar.addi c0_i32_39 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v47 : BitVec 32 := Scalar.muli v5 c1_i32_40
  let v48 : BitVec 32 := Scalar.addi v46 v47
  v48.toNat
def k0_off3 (d0 : Dev nD) : Fin 3 → Nat :=
  let c0_i32_45 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let c192_i32 : BitVec 32 := 192#32
  let v55 : BitVec 32 := Scalar.addi v8 c192_i32
  let c0_i32_50 : BitVec 32 := 0#32
  ![0, v55.toNat, 0]
def k0_dev4 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v75 : BitVec 32 := Scalar.muli v6 c2_i32_64
  let v76 : BitVec 32 := Scalar.addi c0_i32_65 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v77 : BitVec 32 := Scalar.muli v5 c1_i32_66
  let v78 : BitVec 32 := Scalar.addi v76 v77
  v78.toNat
def k0_off4 (d0 : Dev nD) (c448_i32 : BitVec 32) : Fin 3 → Nat :=
  let c0_i32_71 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v85 : BitVec 32 := Scalar.addi v8 c448_i32
  let c0_i32_76 : BitVec 32 := 0#32
  ![0, v85.toNat, 0]
def k0_dev5 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v105 : BitVec 32 := Scalar.muli v6 c2_i32_90
  let v106 : BitVec 32 := Scalar.addi c0_i32_91 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v107 : BitVec 32 := Scalar.muli v5 c1_i32_92
  let v108 : BitVec 32 := Scalar.addi v106 v107
  v108.toNat
def k0_dev6 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v135 : BitVec 32 := Scalar.muli v6 c2_i32_115
  let v136 : BitVec 32 := Scalar.addi c0_i32_116 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v137 : BitVec 32 := Scalar.muli v5 c1_i32_117
  let v138 : BitVec 32 := Scalar.addi v136 v137
  v138.toNat
def k0_dev7 (d0 : Dev nD) : Nat :=
  let c0_i32_141 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_140 : BitVec 32 := 2#32
  let v165 : BitVec 32 := Scalar.muli v6 c2_i32_140
  let v166 : BitVec 32 := Scalar.addi c0_i32_141 v165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v167 : BitVec 32 := Scalar.muli v5 c1_i32_142
  let v168 : BitVec 32 := Scalar.addi v166 v167
  v168.toNat
def k0_dev8 (d0 : Dev nD) : Nat :=
  let c0_i32_166 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_165 : BitVec 32 := 2#32
  let v195 : BitVec 32 := Scalar.muli v6 c2_i32_165
  let v196 : BitVec 32 := Scalar.addi c0_i32_166 v195
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_167 : BitVec 32 := 1#32
  let v197 : BitVec 32 := Scalar.muli v5 c1_i32_167
  let v198 : BitVec 32 := Scalar.addi v196 v197
  v198.toNat
def k0_dev9 (d0 : Dev nD) : Nat :=
  let c0_i32_191 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_190 : BitVec 32 := 2#32
  let v225 : BitVec 32 := Scalar.muli v6 c2_i32_190
  let v226 : BitVec 32 := Scalar.addi c0_i32_191 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v227 : BitVec 32 := Scalar.muli v5 c1_i32_192
  let v228 : BitVec 32 := Scalar.addi v226 v227
  v228.toNat
def k0_dev10 (d0 : Dev nD) : Nat :=
  let c0_i32_216 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_215 : BitVec 32 := 2#32
  let v255 : BitVec 32 := Scalar.muli v6 c2_i32_215
  let v256 : BitVec 32 := Scalar.addi c0_i32_216 v255
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_217 : BitVec 32 := 1#32
  let v257 : BitVec 32 := Scalar.muli v5 c1_i32_217
  let v258 : BitVec 32 := Scalar.addi v256 v257
  v258.toNat
def k0_off5 (d0 : Dev nD) : Fin 3 → Nat :=
  let c0_i32_222 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let c3520_i32 : BitVec 32 := 3520#32
  let v265 : BitVec 32 := Scalar.addi v8 c3520_i32
  let c0_i32_227 : BitVec 32 := 0#32
  ![0, v265.toNat, 0]
def k0_dev11 (d0 : Dev nD) : Nat :=
  let c0_i32_241 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_240 : BitVec 32 := 2#32
  let v285 : BitVec 32 := Scalar.muli v6 c2_i32_240
  let v286 : BitVec 32 := Scalar.addi c0_i32_241 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_242 : BitVec 32 := 1#32
  let v287 : BitVec 32 := Scalar.muli v5 c1_i32_242
  let v288 : BitVec 32 := Scalar.addi v286 v287
  v288.toNat
def k0_dev12 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v315 : BitVec 32 := Scalar.muli v6 c2_i32_265
  let v316 : BitVec 32 := Scalar.addi c0_i32_266 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v317 : BitVec 32 := Scalar.muli v5 c1_i32_267
  let v318 : BitVec 32 := Scalar.addi v316 v317
  v318.toNat
def k0_dev13 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v345 : BitVec 32 := Scalar.muli v6 c2_i32_290
  let v346 : BitVec 32 := Scalar.addi c0_i32_291 v345
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v347 : BitVec 32 := Scalar.muli v5 c1_i32_292
  let v348 : BitVec 32 := Scalar.addi v346 v347
  v348.toNat
def k0_off6 (d0 : Dev nD) (c4032_i32 : BitVec 32) : Fin 3 → Nat :=
  let c0_i32_297 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v355 : BitVec 32 := Scalar.addi v8 c4032_i32
  let c0_i32_302 : BitVec 32 := 0#32
  ![0, v355.toNat, 0]
def k0_dev14 (d0 : Dev nD) : Nat :=
  let c0_i32_316 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_315 : BitVec 32 := 2#32
  let v375 : BitVec 32 := Scalar.muli v6 c2_i32_315
  let v376 : BitVec 32 := Scalar.addi c0_i32_316 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v377 : BitVec 32 := Scalar.muli v5 c1_i32_317
  let v378 : BitVec 32 := Scalar.addi v376 v377
  v378.toNat
def k0_dev15 (d0 : Dev nD) : Nat :=
  let c0_i32_341 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_340 : BitVec 32 := 2#32
  let v405 : BitVec 32 := Scalar.muli v6 c2_i32_340
  let v406 : BitVec 32 := Scalar.addi c0_i32_341 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v407 : BitVec 32 := Scalar.muli v5 c1_i32_342
  let v408 : BitVec 32 := Scalar.addi v406 v407
  v408.toNat
def k0_dev16 (d0 : Dev nD) : Nat :=
  let c0_i32_360 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_359 : BitVec 32 := 2#32
  let v428 : BitVec 32 := Scalar.muli v6 c2_i32_359
  let v429 : BitVec 32 := Scalar.addi c0_i32_360 v428
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_361 : BitVec 32 := 1#32
  let v430 : BitVec 32 := Scalar.muli v5 c1_i32_361
  let v431 : BitVec 32 := Scalar.addi v429 v430
  v431.toNat
def k0_off7 (d0 : Dev nD) (c0_i32_380 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v452 : BitVec 32 := Scalar.addi v8 c0_i32_380
  let c0_i32_382 : BitVec 32 := 0#32
  ![v452.toNat, 0]
def k0_dev17 (d0 : Dev nD) : Nat :=
  let c0_i32_388 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_387 : BitVec 32 := 2#32
  let v457 : BitVec 32 := Scalar.muli v2 c2_i32_387
  let v458 : BitVec 32 := Scalar.addi c0_i32_388 v457
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_389 : BitVec 32 := 1#32
  let v459 : BitVec 32 := Scalar.muli v7 c1_i32_389
  let v460 : BitVec 32 := Scalar.addi v458 v459
  v460.toNat
def k0_off8 (d0 : Dev nD) (c64_i32_407 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v481 : BitVec 32 := Scalar.addi v8 c64_i32_407
  let c0_i32_409 : BitVec 32 := 0#32
  ![v481.toNat, 0]
def k0_dev18 (d0 : Dev nD) : Nat :=
  let c0_i32_415 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_414 : BitVec 32 := 2#32
  let v486 : BitVec 32 := Scalar.muli v2 c2_i32_414
  let v487 : BitVec 32 := Scalar.addi c0_i32_415 v486
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_416 : BitVec 32 := 1#32
  let v488 : BitVec 32 := Scalar.muli v7 c1_i32_416
  let v489 : BitVec 32 := Scalar.addi v487 v488
  v489.toNat
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let c192_i32_434 : BitVec 32 := 192#32
  let v510 : BitVec 32 := Scalar.addi v8 c192_i32_434
  let c0_i32_436 : BitVec 32 := 0#32
  ![v510.toNat, 0]
def k0_dev19 (d0 : Dev nD) : Nat :=
  let c0_i32_442 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_441 : BitVec 32 := 2#32
  let v515 : BitVec 32 := Scalar.muli v2 c2_i32_441
  let v516 : BitVec 32 := Scalar.addi c0_i32_442 v515
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_443 : BitVec 32 := 1#32
  let v517 : BitVec 32 := Scalar.muli v7 c1_i32_443
  let v518 : BitVec 32 := Scalar.addi v516 v517
  v518.toNat
def k0_off10 (d0 : Dev nD) (c448_i32_461 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v539 : BitVec 32 := Scalar.addi v8 c448_i32_461
  let c0_i32_463 : BitVec 32 := 0#32
  ![v539.toNat, 0]
def k0_dev20 (d0 : Dev nD) : Nat :=
  let c0_i32_469 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_468 : BitVec 32 := 2#32
  let v544 : BitVec 32 := Scalar.muli v2 c2_i32_468
  let v545 : BitVec 32 := Scalar.addi c0_i32_469 v544
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_470 : BitVec 32 := 1#32
  let v546 : BitVec 32 := Scalar.muli v7 c1_i32_470
  let v547 : BitVec 32 := Scalar.addi v545 v546
  v547.toNat
def k0_dev21 (d0 : Dev nD) : Nat :=
  let c0_i32_496 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_495 : BitVec 32 := 2#32
  let v573 : BitVec 32 := Scalar.muli v2 c2_i32_495
  let v574 : BitVec 32 := Scalar.addi c0_i32_496 v573
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_497 : BitVec 32 := 1#32
  let v575 : BitVec 32 := Scalar.muli v7 c1_i32_497
  let v576 : BitVec 32 := Scalar.addi v574 v575
  v576.toNat
def k0_dev22 (d0 : Dev nD) : Nat :=
  let c0_i32_523 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_522 : BitVec 32 := 2#32
  let v602 : BitVec 32 := Scalar.muli v2 c2_i32_522
  let v603 : BitVec 32 := Scalar.addi c0_i32_523 v602
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_524 : BitVec 32 := 1#32
  let v604 : BitVec 32 := Scalar.muli v7 c1_i32_524
  let v605 : BitVec 32 := Scalar.addi v603 v604
  v605.toNat
def k0_dev23 (d0 : Dev nD) : Nat :=
  let c0_i32_550 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_549 : BitVec 32 := 2#32
  let v631 : BitVec 32 := Scalar.muli v2 c2_i32_549
  let v632 : BitVec 32 := Scalar.addi c0_i32_550 v631
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_551 : BitVec 32 := 1#32
  let v633 : BitVec 32 := Scalar.muli v7 c1_i32_551
  let v634 : BitVec 32 := Scalar.addi v632 v633
  v634.toNat
def k0_dev24 (d0 : Dev nD) : Nat :=
  let c0_i32_577 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_576 : BitVec 32 := 2#32
  let v660 : BitVec 32 := Scalar.muli v2 c2_i32_576
  let v661 : BitVec 32 := Scalar.addi c0_i32_577 v660
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_578 : BitVec 32 := 1#32
  let v662 : BitVec 32 := Scalar.muli v7 c1_i32_578
  let v663 : BitVec 32 := Scalar.addi v661 v662
  v663.toNat
def k0_dev25 (d0 : Dev nD) : Nat :=
  let c0_i32_604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_603 : BitVec 32 := 2#32
  let v689 : BitVec 32 := Scalar.muli v2 c2_i32_603
  let v690 : BitVec 32 := Scalar.addi c0_i32_604 v689
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_605 : BitVec 32 := 1#32
  let v691 : BitVec 32 := Scalar.muli v7 c1_i32_605
  let v692 : BitVec 32 := Scalar.addi v690 v691
  v692.toNat
def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let c3520_i32_623 : BitVec 32 := 3520#32
  let v713 : BitVec 32 := Scalar.addi v8 c3520_i32_623
  let c0_i32_625 : BitVec 32 := 0#32
  ![v713.toNat, 0]
def k0_dev26 (d0 : Dev nD) : Nat :=
  let c0_i32_631 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_630 : BitVec 32 := 2#32
  let v718 : BitVec 32 := Scalar.muli v2 c2_i32_630
  let v719 : BitVec 32 := Scalar.addi c0_i32_631 v718
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_632 : BitVec 32 := 1#32
  let v720 : BitVec 32 := Scalar.muli v7 c1_i32_632
  let v721 : BitVec 32 := Scalar.addi v719 v720
  v721.toNat
def k0_dev27 (d0 : Dev nD) : Nat :=
  let c0_i32_658 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_657 : BitVec 32 := 2#32
  let v747 : BitVec 32 := Scalar.muli v2 c2_i32_657
  let v748 : BitVec 32 := Scalar.addi c0_i32_658 v747
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_659 : BitVec 32 := 1#32
  let v749 : BitVec 32 := Scalar.muli v7 c1_i32_659
  let v750 : BitVec 32 := Scalar.addi v748 v749
  v750.toNat
def k0_dev28 (d0 : Dev nD) : Nat :=
  let c0_i32_685 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_684 : BitVec 32 := 2#32
  let v776 : BitVec 32 := Scalar.muli v2 c2_i32_684
  let v777 : BitVec 32 := Scalar.addi c0_i32_685 v776
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_686 : BitVec 32 := 1#32
  let v778 : BitVec 32 := Scalar.muli v7 c1_i32_686
  let v779 : BitVec 32 := Scalar.addi v777 v778
  v779.toNat
def k0_off12 (d0 : Dev nD) (c4032_i32_704 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v800 : BitVec 32 := Scalar.addi v8 c4032_i32_704
  let c0_i32_706 : BitVec 32 := 0#32
  ![v800.toNat, 0]
def k0_dev29 (d0 : Dev nD) : Nat :=
  let c0_i32_712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_711 : BitVec 32 := 2#32
  let v805 : BitVec 32 := Scalar.muli v2 c2_i32_711
  let v806 : BitVec 32 := Scalar.addi c0_i32_712 v805
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_713 : BitVec 32 := 1#32
  let v807 : BitVec 32 := Scalar.muli v7 c1_i32_713
  let v808 : BitVec 32 := Scalar.addi v806 v807
  v808.toNat
def k0_dev30 (d0 : Dev nD) : Nat :=
  let c0_i32_739 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_738 : BitVec 32 := 2#32
  let v834 : BitVec 32 := Scalar.muli v2 c2_i32_738
  let v835 : BitVec 32 := Scalar.addi c0_i32_739 v834
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_740 : BitVec 32 := 1#32
  let v836 : BitVec 32 := Scalar.muli v7 c1_i32_740
  let v837 : BitVec 32 := Scalar.addi v835 v836
  v837.toNat
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | .hbm, ⟨3, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.ProtoIdeal.lean ====
/-
# The protocol of the kernel: contents, cells, rounds, and what each chunk holds at each of its stages

The four devices form a 2 by 2 mesh: device `c` is at `(mx c, my c) = (c / 2, c % 2)`. The argument is cut along the
first axis of the mesh only, so the devices `(x, 0)` and `(x, 1)` hold the same block of it; each device reduces the
rows of its own half (`my`), and the halves are exchanged at the end. A half has 4096 rows, cut in 14 chunks
(`OFF i`, `SZ i`). For chunk `i` of its half, device `c`

1. copies the rows into one of the two slots of a staging buffer, rounds the columns of its own result into the sum
   buffer and the other columns into the send buffer;
2. copies the send buffer's chunk into the receive buffer of the device `pX c` across the first axis;
3. waits for the chunk of `pX c` in its own receive buffer, adds it to the sum buffer;
4. copies the sum into its own result (a local copy) and into the result of `pY c`, its neighbour along the second axis.

Before the first remote copy each device signals the barrier of both neighbours and waits for two units on its own.

Who waits, who pays, what is handed over:

* barrier of `c`: `c` waits for 2; one unit from `pX c` (duty `false`) with the receive buffer of `pX c`, one from `pY c`
  (duty `true`) with the rows of `c`'s half in the result of `pY c`;
* `xs i` of `c` (send side of step 2): the send buffer's chunk back;
* `xr i` of `c` (receive side, paid by `pX c`): the chunk of `c`'s receive buffer, holding what `pX c` sent;
* `ys i` of `c` (send side of the remote copy of step 4): half of the sum buffer's chunk;
* `yr i` of `c` (receive side, paid by `pY c`): the chunk of the other half of `c`'s result, holding the sums of `pY c`.

The local copies' semaphores carry no protocol: each copy is a flight of its own.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's, the rounds' (duties `Bool`) and the local flights' -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The mesh -/

set_option backward.proofsInPublic true in
/-- The neighbour across the first axis. -/
def pX (c : Dev nD) : Dev nD := ⟨(c.val + 2) % 4, Nat.mod_lt _ (by decide)⟩
set_option backward.proofsInPublic true in
/-- The neighbour along the second axis. -/
def pY (c : Dev nD) : Dev nD := ⟨(2 * (c.val / 2) + (1 - c.val % 2)) % 4, Nat.mod_lt _ (by decide)⟩
set_option backward.proofsInPublic true in
/-- The device at `(a, b)`. -/
def dv (a b : ℕ) : Dev nD := ⟨(2 * a + b) % 4, Nat.mod_lt _ (by decide)⟩
def mx (c : Dev nD) : ℕ := c.val / 2
def my (c : Dev nD) : ℕ := c.val % 2

theorem pX_pX (c : Dev nD) : pX (pX c) = c := by revert c; decide
theorem pY_pY (c : Dev nD) : pY (pY c) = c := by revert c; decide
theorem mx_pX (c : Dev nD) : mx (pX c) = 1 - mx c := by revert c; decide
theorem my_pX (c : Dev nD) : my (pX c) = my c := by revert c; decide
theorem mx_pY (c : Dev nD) : mx (pY c) = mx c := by revert c; decide
theorem my_pY (c : Dev nD) : my (pY c) = 1 - my c := by revert c; decide
theorem mx_lt (c : Dev nD) : mx c < 2 := by revert c; decide
theorem my_lt (c : Dev nD) : my c < 2 := by revert c; decide
theorem dv_self (c : Dev nD) : dv (mx c) (my c) = c := by revert c; decide

def ringX : Dev nD ≃ Dev nD := ⟨pX, pX, pX_pX, pX_pX⟩
def ringY : Dev nD ≃ Dev nD := ⟨pY, pY, pY_pY, pY_pY⟩

/-! ## The chunks of a half -/

def SZ : Fin 14 → ℕ := ![64, 128, 256, 512, 512, 512, 512, 512, 512, 320, 128, 64, 32, 32]
def OFF : Fin 14 → ℕ := ![0, 64, 192, 448, 960, 1472, 1984, 2496, 3008, 3520, 3840, 3968, 4032, 4064]

theorem SZ_pos (i : Fin 14) : 0 < SZ i := by revert i; decide
theorem SZ_le (i : Fin 14) : SZ i ≤ 512 := by revert i; decide
theorem OFF_SZ (i : Fin 14) : OFF i + SZ i ≤ 4096 := by revert i; decide
theorem OFF_mono (i j : Fin 14) : i < j → OFF i + SZ i ≤ OFF j := by revert i j; decide

theorem exists_chunk (r : ℕ) (hr : r < 4096) : ∃ i : Fin 14, OFF i ≤ r ∧ r < OFF i + SZ i := by
  by_contra h
  simp only [not_exists, not_and, not_lt, Fin.forall_fin_succ, OFF, SZ, Matrix.cons_val_zero, Matrix.cons_val_succ] at h
  omega

/-- The rows `[lo, lo + sz)` of an array of 1024 columns. -/
def rows (n lo sz : ℕ) : Finset (Shape.Idx ⟨2, ![n, 1024]⟩) :=
  Finset.univ.filter fun x => lo ≤ (x 0).val ∧ (x 0).val < lo + sz

theorem mem_rows {n lo sz : ℕ} {x : Shape.Idx ⟨2, ![n, 1024]⟩} : x ∈ rows n lo sz ↔ lo ≤ (x 0).val ∧ (x 0).val < lo + sz := by
  unfold rows; rw [Finset.mem_filter]; exact and_iff_right (Finset.mem_univ _)

theorem rows_disjoint {n lo sz lo' sz' : ℕ} (h : lo + sz ≤ lo' ∨ lo' + sz' ≤ lo) : Disjoint (rows n lo sz) (rows n lo' sz') := by
  rw [Finset.disjoint_left]; intro x hx hx'
  rw [mem_rows] at hx hx'; omega

theorem chunks_disjoint (n b : ℕ) (i j : Fin 14) (h : i ≠ j) : Disjoint (rows n (b + OFF i) (SZ i)) (rows n (b + OFF j) (SZ j)) := by
  refine rows_disjoint ?_
  rcases lt_or_gt_of_ne h with h | h
  · left; have := OFF_mono i j h; omega
  · right; have := OFF_mono j i h; omega

theorem chunks_cover (n b : ℕ) : (Finset.univ.biUnion fun i => rows n (b + OFF i) (SZ i)) = rows n b 4096 := by
  ext x
  rw [Finset.mem_biUnion, mem_rows]
  constructor
  · rintro ⟨i, -, hi⟩; rw [mem_rows] at hi; have := OFF_SZ i; omega
  · rintro ⟨h1, h2⟩
    obtain ⟨i, hi⟩ := exists_chunk ((x 0).val - b) (by omega)
    exact ⟨i, Finset.mem_univ _, mem_rows.mpr (by omega)⟩

/-- Chunk `i` of a buffer of one half's rows. -/
abbrev chS (i : Fin 14) : Finset S4096x1024.Idx := rows 4096 (0 + OFF i) (SZ i)
/-- Chunk `i` of half `h` of the result. -/
abbrev outS (h : ℕ) (i : Fin 14) : Finset S8192x1024.Idx := rows 8192 (h * 4096 + OFF i) (SZ i)
/-- Half `h` of the result. -/
abbrev halfS (h : ℕ) : Finset S8192x1024.Idx := rows 8192 (h * 4096) 4096

/-- Slot `s` of the staging buffer. -/
def slotS (s : Fin 2) : Finset S2x512x2048.Idx := Finset.univ.filter fun x => (x 0).val = s.val

theorem mem_slotS {s : Fin 2} {x : S2x512x2048.Idx} : x ∈ slotS s ↔ (x 0).val = s.val := by
  unfold slotS; rw [Finset.mem_filter]; exact and_iff_right (Finset.mem_univ _)

theorem rows_univ : rows 4096 0 4096 = Finset.univ := by
  ext x; rw [mem_rows]; have := (x 0).isLt
  simp only [Finset.mem_univ, iff_true]; exact ⟨Nat.zero_le _, by simpa using this⟩

/-! ## Locations -/

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev sL (c : Dev nD) : Loc nD τ sig := (c : Thread nD τ).loc cc0_scratch1
abbrev vL (c : Dev nD) : Loc nD τ sig := (c : Thread nD τ).loc cc0_scratch2
abbrev uL (c : Dev nD) : Loc nD τ sig := (c : Thread nD τ).loc cc0_scratch3

/-! ## Contents -/

set_option backward.proofsInPublic true in
def ix3 (r k : ℕ) : S1x8192x2048.Idx
  | 0 => ⟨0, by decide⟩
  | 1 => ⟨r % 8192, Nat.mod_lt _ (by decide)⟩
  | 2 => ⟨k % 2048, Nat.mod_lt _ (by decide)⟩
set_option backward.proofsInPublic true in
def ix2 (r k : ℕ) : S4096x1024.Idx
  | 0 => ⟨r % 4096, Nat.mod_lt _ (by decide)⟩
  | 1 => ⟨k % 1024, Nat.mod_lt _ (by decide)⟩

/-- Rounding an element of the argument to the result's format. -/
def cvt (x : Elt F .f32) : Elt F .bf16 := FloatOps.truncf (F := F) (φ := .f32) .bf16 bitsLt_bf16_f32 x
/-- The sum of two elements in the result's format. -/
def add (x y : Elt F .bf16) : Elt F .bf16 := FloatOps.addf (F := F) (φ := .bf16) x y

/-- Device `c`'s block of the argument. -/
def X (c : Dev nD) : S1x8192x2048.Idx → Elt F .f32 := m (xL c)
/-- The rows of `c`'s half, the columns `[1024 a, 1024 a + 1024)`, rounded. -/
def part (c : Dev nD) (a : ℕ) : S4096x1024.Idx → Elt F .bf16 := fun x => cvt (X m c (ix3 (my c * 4096 + (x 0).val) (a * 1024 + (x 1).val)))
/-- What `c` keeps, sends, receives; the sum; the result. -/
def keepV (c : Dev nD) : S4096x1024.Idx → Elt F .bf16 := part m c (mx c)
def sendV (c : Dev nD) : S4096x1024.Idx → Elt F .bf16 := part m c (1 - mx c)
def recvV (c : Dev nD) : S4096x1024.Idx → Elt F .bf16 := sendV m (pX c)
def sumV (c : Dev nD) : S4096x1024.Idx → Elt F .bf16 := fun x => add (keepV m c x) (recvV m c x)
def outV (c : Dev nD) : S8192x1024.Idx → Elt F .bf16 := fun x => sumV m (dv (mx c) ((x 0).val / 4096)) (ix2 (x 0).val (x 1).val)

theorem outV_pY (c : Dev nD) : outV m (pY c) = outV m c := by
  funext x; unfold outV; rw [mx_pY]

/-! ## The cells -/

/-- The barrier semaphore. -/
abbrev barS : Sem sig := (SemArray.scalar (sig.barrier 0 rfl) : Sems sig S_).sem
set_option backward.proofsInPublic true in
/-- The semaphores of chunk `i`'s remote copies: `k = 0` the send side and `k = 1` the receive side across the first
    axis, `k = 2` and `k = 3` those along the second. -/
def dS (k : Fin 4) (i : Fin 14) : DmaSem sig := (⟨16 + 14 * k.val + i.val, by have := k.isLt; have := i.isLt; omega⟩ : Fin 72)
set_option backward.proofsInPublic true in
/-- The semaphores of the copies into the result. -/
def oS (i : Fin 14) : DmaSem sig := (⟨2 + i.val, by have := i.isLt; omega⟩ : Fin 72)
set_option backward.proofsInPublic true in
/-- The semaphores of the staging slots. -/
def iS (s : Fin 2) : DmaSem sig := (⟨s.val, by have := s.isLt; omega⟩ : Fin 72)

abbrev barCell (c : Dev nD) : GSem nD τ sig := ((c : Thread nD τ), .reg barS)
abbrev dCell (c : Dev nD) (k : Fin 4) (i : Fin 14) : GSem nD τ sig := ((c : Thread nD τ), .dma (dS k i))

/-- The units a copy of chunk `i` is worth. -/
def NN (i : Fin 14) : ℕ := RefSig.tileCredit ⟨2, ![SZ i, 1024]⟩ .bf16
theorem NN_pos (i : Fin 14) : 0 < NN i := RefSig.tileCredit_pos _ _ (by
  have := SZ_pos i
  show 0 < ∏ a : Fin 2, (![SZ i, 1024] : Fin 2 → ℕ) a
  rw [Fin.prod_univ_two]; exact Nat.mul_pos this (show 0 < 1024 by decide))

/-- Which of the protocol's 56 copy cells a copy semaphore is. -/
def kOf (q : DmaSem sig) : ℕ := ((show Fin 72 from q).val - 16) / 14
def iOf (q : DmaSem sig) : Fin 14 := ⟨((show Fin 72 from q).val - 16) % 14, Nat.mod_lt _ (by decide)⟩
def isD (q : DmaSem sig) : Prop := 16 ≤ (show Fin 72 from q).val
instance (q : DmaSem sig) : Decidable (isD q) := by unfold isD; infer_instance

theorem isD_dS (k : Fin 4) (i : Fin 14) : isD (dS k i) := by show 16 ≤ 16 + 14 * k.val + i.val; omega
theorem kOf_dS (k : Fin 4) (i : Fin 14) : kOf (dS k i) = k.val := by
  show (16 + 14 * k.val + i.val - 16) / 14 = k.val; have := i.isLt; omega
theorem iOf_dS (k : Fin 4) (i : Fin 14) : iOf (dS k i) = i :=
  Fin.ext (by show (16 + 14 * k.val + i.val - 16) % 14 = i.val; have := i.isLt; omega)

/-! ## The schedule -/

/-- What a signal hands over: across the first axis the receive buffer, along the second the rows of the neighbour's half. -/
def barPay (c : Dev nD) (d : Bool) : sProp 𝕄 :=
  if d then iprop(∃ f : Buf (Elt F) (oL (pY c)), (oL (pY c)) ↦[halfS (my c)]{fullShare} f)
  else iprop(∃ f : Buf (Elt F) (vL (pX c)), (vL (pX c)) ↦{fullShare} f)

/-- The two halves of full ownership. -/
abbrev qA : PosShare TreeShare := fullShare.left
abbrev qB : PosShare TreeShare := fullShare.right

/-- What a landing of chunk `i` hands over. -/
def dPay (c : Dev nD) (k : ℕ) (i : Fin 14) : sProp 𝕄 :=
  match k with
  | 0 => iprop(∃ f : Buf (Elt F) (sL c), (sL c) ↦[chS i]{fullShare} f)
  | 1 => (vL c) ↦[chS i]{fullShare} recvV m c
  | 2 => (uL c) ↦[chS i]{qB} sumV m c
  | _ => (oL c) ↦[outS (1 - my c) i]{fullShare} outV m c

def Rd : Rounds.Schedule (GSem nD τ sig) Bool 𝕄 where
  duties g r := if r = 0 ∧ g.1.2 = .tc then (match g.2 with | .reg _ => Finset.univ | .dma q => if isD q then {false} else ∅) else ∅
  unitless _ := False
  amount g _ _ := match g.2 with | .reg _ => 1 | .dma q => NN (iOf q)
  payload g _ d := match g.2 with | .reg _ => barPay g.1.1 d | .dma q => dPay m g.1.1 (kOf q) (iOf q)
  amount_pos g _ _ _ := by
    rcases g with ⟨t, _ | q⟩
    · exact Nat.one_pos
    · exact NN_pos _

instance barPay_storable (c : Dev nD) (d : Bool) : BI.Storable (upEmb : UEmb _ 𝕄) (barPay (F := F) c d) := by
  unfold barPay; split <;> infer_instance
instance dPay_storable (c : Dev nD) (k : ℕ) (i : Fin 14) : BI.Storable (upEmb : UEmb _ 𝕄) (dPay m c k i) := by
  unfold dPay; split <;> infer_instance
instance Rd_payload_storable (g : GSem nD τ sig) (r : ℕ) (d : Bool) : BI.Storable (upEmb : UEmb _ 𝕄) ((Rd m).payload g r d) := by
  rcases g with ⟨t, s | q⟩
  · show BI.Storable upEmb (barPay t.1 d); infer_instance
  · show BI.Storable upEmb (dPay m t.1 (kOf q) (iOf q)); infer_instance

theorem duties_bar (c : Dev nD) : (Rd m).duties (barCell c) 0 = Finset.univ := by dsimp only [Rd]; exact if_pos ⟨rfl, rfl⟩
theorem duties_d (c : Dev nD) (k : Fin 4) (i : Fin 14) : (Rd m).duties (dCell c k i) 0 = {false} := by
  dsimp only [Rd]; rw [if_pos ⟨rfl, rfl⟩]; exact if_pos (isD_dS k i)
theorem duties_later (g : GSem nD τ sig) : ∀ r, 1 ≤ r → (Rd m).duties g r = ∅ :=
  fun r hr => by dsimp only [Rd]; exact if_neg fun h => by omega
theorem amount_bar (c : Dev nD) (d : Bool) : (Rd m).amount (barCell c) 0 d = 1 := rfl
theorem amount_d (c : Dev nD) (k : Fin 4) (i : Fin 14) (d : Bool) : (Rd m).amount (dCell c k i) 0 d = NN i := by
  show NN (iOf (dS k i)) = NN i; rw [iOf_dS]
theorem expect_bar (c : Dev nD) : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_d (c : Dev nD) (k : Fin 4) (i : Fin 14) : (Rd m).expect (dCell c k i) 0 = NN i := by
  unfold Schedule.expect Schedule.amountOf; rw [duties_d, Finset.sum_singleton, amount_d]
theorem payload_bar (c : Dev nD) (d : Bool) : (Rd m).payload (barCell c) 0 d = barPay c d := rfl
theorem payload_d (c : Dev nD) (k : Fin 4) (i : Fin 14) (d : Bool) : (Rd m).payload (dCell c k i) 0 d = dPay m c k.val i := by
  show dPay m c (kOf (dS k i)) (iOf (dS k i)) = _; rw [iOf_dS, kOf_dS]
theorem rest_bar (c : Dev nD) : bigSep ((Rd m).duties (barCell c) 0 \ ∅) (fun d => (Rd m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_d (c : Dev nD) (k : Fin 4) (i : Fin 14) :
    bigSep ((Rd m).duties (dCell c k i) 0 \ ∅) (fun d => (Rd m).payload (dCell c k i) 0 d) = dPay m c k.val i := by
  rw [Finset.sdiff_empty, duties_d, bigSep_singleton, payload_d]

/-! ## What each device owes, and the levels -/

/-- What `c` owes when `b` of its signals are out and the chunks are at the stages `ph`. -/
def ow (c : Dev nD) (b : ℕ) (ph : Fin 14 → ℕ) : CellTallies nD τ sig Unit :=
  (∑ j, if ph j < 4 then tallyAt (dCell (pX c) 1 j) () (NN j) else 0)
    + (∑ j, if ph j < 8 then tallyAt (dCell (pY c) 3 j) () (NN j) else 0)
    + (if b < 2 then tallyAt (barCell (pY c)) () 1 else 0)
    + (if b < 1 then tallyAt (barCell (pX c)) () 1 else 0)

def L (g : GSem nD τ sig) : Finset Unit := if g.1.2 = .tc then {()} else ∅
/-- The levels: barriers 1, receive cells across the first axis 2, along the second 3, everything else 0. -/
def lv (g : GSem nD τ sig) (_ : Unit) : ℕ :=
  match g.2 with
  | .reg _ => 1
  | .dma q => if isD q then (if kOf q = 1 then 2 else if kOf q = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_d (c : Dev nD) (k : Fin 4) (i : Fin 14) : lv (dCell c k i) () = if k.val = 1 then 2 else if k.val = 3 then 3 else 0 := by
  show (if isD (dS k i) then (if kOf (dS k i) = 1 then 2 else if kOf (dS k i) = 3 then 3 else 0) else 0) = _
  rw [if_pos (isD_dS k i), kOf_dS]

theorem sum_tally_pos {p : Fin 14 → Prop} [DecidablePred p] {c : Fin 14 → GSem nD τ sig} {g : GSem nD τ sig} {u : Unit}
    (h : 0 < (∑ j, if p j then tallyAt (c j) () (NN j) else (0 : CellTallies nD τ sig Unit)) g u) : ∃ j, p j ∧ g = c j := by
  by_contra hn
  rw [not_exists] at hn
  rw [Finset.sum_apply, Finsupp.finset_sum_apply, Finset.sum_eq_zero] at h
  · exact Nat.lt_irrefl 0 h
  · intro j _
    by_cases hp : p j
    · rw [if_pos hp, tallyAt_apply, if_neg fun h' => hn j ⟨hp, h'.1⟩]
    · rw [if_neg hp]; rfl

theorem tally_if_pos {p : Prop} [Decidable p] {g' g : GSem nD τ sig} {u : Unit}
    (h : 0 < (if p then tallyAt g' () 1 else (0 : CellTallies nD τ sig Unit)) g u) : p ∧ g = g' := by
  by_cases hp : p
  · rw [if_pos hp, tallyAt_apply] at h
    by_cases hg : g = g' ∧ u = ()
    · exact ⟨hp, hg.1⟩
    · rw [if_neg hg] at h; exact absurd h (Nat.lt_irrefl 0)
  · rw [if_neg hp] at h; exact absurd h (Nat.lt_irrefl 0)

theorem pos_of_add4 {a b c d : ℕ} (h : 0 < a + b + c + d) : 0 < a ∨ 0 < b ∨ 0 < c ∨ 0 < d := by omega

theorem ow_pos {c : Dev nD} {b : ℕ} {ph : Fin 14 → ℕ} {g : GSem nD τ sig} {u : Unit} (h : 0 < ow c b ph g u) :
    (∃ j, ph j < 4 ∧ g = dCell (pX c) 1 j) ∨ (∃ j, ph j < 8 ∧ g = dCell (pY c) 3 j) ∨ (b < 2 ∧ ∃ c', g = barCell c') := by
  unfold ow at h
  rw [Pi.add_apply, Finsupp.add_apply, Pi.add_apply, Finsupp.add_apply, Pi.add_apply, Finsupp.add_apply] at h
  rcases pos_of_add4 h with h | h | h | h
  · exact .inl (sum_tally_pos h)
  · exact .inr (.inl (sum_tally_pos h))
  · exact .inr (.inr ⟨(tally_if_pos h).1, _, (tally_if_pos h).2⟩)
  · exact .inr (.inr ⟨by have := (tally_if_pos h).1; omega, _, (tally_if_pos h).2⟩)

omit [FloatOps F] in
/-- A wait at level `l` is allowed when everything owed is above it. -/
theorem mayWait (c : Dev nD) (sm : SemLoc sig) (b : ℕ) (ph : Fin 14 → ℕ) (l : ℕ) (hl : lv ((c : Thread nD τ), sm) () ≤ l)
    (h1 : l < 1 ∨ 2 ≤ b) (h2 : l < 2 ∨ ∀ j, 4 ≤ ph j) (h3 : l < 3 ∨ ∀ j, 8 ≤ ph j) :
    (levAts L lv : sProp 𝕄) ⊢ MayWait (c : Thread nD τ) sm () (ow c b ph) :=
  MayOwe.of_cut (L := L) (lev := lv) l (fun p hp => by rw [Finset.mem_singleton.mp hp, L_tc]; exact Finset.mem_singleton_self _)
    (fun g u hg => by
      rcases ow_pos hg with ⟨j, -, rfl⟩ | ⟨j, -, rfl⟩ | ⟨-, c', rfl⟩ <;> exact Finset.mem_singleton_self _)
    (fun p hp => by rw [Finset.mem_singleton.mp hp]; exact hl)
    (fun g u hg => by
      rcases ow_pos hg with ⟨j, hj, rfl⟩ | ⟨j, hj, rfl⟩ | ⟨hb, c', rfl⟩
      · rcases h2 with h2 | h2
        · rw [show lv (dCell (pX c) 1 j) u = 2 from lv_d _ 1 j]; omega
        · have := h2 j; omega
      · rcases h3 with h3 | h3
        · rw [show lv (dCell (pY c) 3 j) u = 3 from lv_d _ 3 j]; omega
        · have := h3 j; omega
      · rcases h1 with h1 | h1
        · show l < 1; omega
        · omega)

theorem sum_peel (p p' : Fin 14 → Prop) [DecidablePred p] [DecidablePred p'] (f : Fin 14 → CellTallies nD τ sig Unit) (i : Fin 14) (hp : p i) (hp' : ¬ p' i)
    (h : ∀ j, j ≠ i → (p j ↔ p' j)) : (∑ j, if p j then f j else 0) = (∑ j, if p' j then f j else 0) + f i := by
  rw [← Finset.add_sum_erase _ _ (Finset.mem_univ i), ← Finset.add_sum_erase _ (fun j => if p' j then f j else 0) (Finset.mem_univ i), if_pos hp, if_neg hp', zero_add,
    add_comm]
  congr 1
  refine Finset.sum_congr rfl fun j hj => ?_
  simp only [h j (Finset.ne_of_mem_erase hj)]

abbrev upd (ph : Fin 14 → ℕ) (i : Fin 14) (n : ℕ) : Fin 14 → ℕ := Function.update ph i n

/-- A step of a chunk that pays nothing leaves what is owed. -/
theorem ow_same (c : Dev nD) (b : ℕ) (ph : Fin 14 → ℕ) (i : Fin 14) (n : ℕ) (h4 : ph i < 4 ↔ n < 4) (h8 : ph i < 8 ↔ n < 8) :
    ow c b (upd ph i n) = ow c b ph := by
  unfold ow
  congr 3 <;> refine Finset.sum_congr rfl fun j _ => ?_ <;> by_cases hj : j = i
  · subst hj; simp only [upd, Function.update_self, h4]
  · simp only [upd, Function.update_of_ne hj]
  · subst hj; simp only [upd, Function.update_self, h8]
  · simp only [upd, Function.update_of_ne hj]

theorem ow_x (c : Dev nD) (b : ℕ) (ph : Fin 14 → ℕ) (i : Fin 14) (n : ℕ) (h : ph i < 4) (hn : 4 ≤ n) (hn' : n < 8) :
    ow c b ph = ow c b (upd ph i n) + tallyAt (dCell (pX c) 1 i) () (NN i) := by
  unfold ow
  rw [sum_peel (fun j => ph j < 4) (fun j => upd ph i n j < 4) _ i h (by simp only [upd, Function.update_self]; omega)
    (fun j hj => by simp only [upd, Function.update_of_ne hj])]
  have : (∑ j, if ph j < 8 then tallyAt (dCell (pY c) 3 j) () (NN j) else 0)
      = ∑ j, if upd ph i n j < 8 then tallyAt (dCell (pY c) 3 j) () (NN j) else (0 : CellTallies nD τ sig Unit) := by
    refine Finset.sum_congr rfl fun j _ => ?_
    by_cases hj : j = i
    · subst hj; simp only [upd, Function.update_self]; rw [if_pos (by omega), if_pos hn']
    · simp only [upd, Function.update_of_ne hj]
  rw [this, add_right_comm _ (tallyAt _ () (NN i)), add_right_comm _ (tallyAt _ () (NN i)), add_right_comm _ (tallyAt _ () (NN i))]

theorem ow_y (c : Dev nD) (b : ℕ) (ph : Fin 14 → ℕ) (i : Fin 14) (n : ℕ) (h : ph i < 8) (h4 : 4 ≤ ph i) (hn : 8 ≤ n) :
    ow c b ph = ow c b (upd ph i n) + tallyAt (dCell (pY c) 3 i) () (NN i) := by
  unfold ow
  rw [sum_peel (fun j => ph j < 8) (fun j => upd ph i n j < 8) _ i h (by simp only [upd, Function.update_self]; omega)
    (fun j hj => by simp only [upd, Function.update_of_ne hj])]
  have : (∑ j, if ph j < 4 then tallyAt (dCell (pX c) 1 j) () (NN j) else 0)
      = ∑ j, if upd ph i n j < 4 then tallyAt (dCell (pX c) 1 j) () (NN j) else (0 : CellTallies nD τ sig Unit) := by
    refine Finset.sum_congr rfl fun j _ => ?_
    by_cases hj : j = i
    · subst hj; simp only [upd, Function.update_self]; rw [if_neg (by omega), if_neg (by omega)]
    · simp only [upd, Function.update_of_ne hj]
  rw [this, ← add_assoc, add_right_comm _ (tallyAt _ () (NN i)), add_right_comm _ (tallyAt _ () (NN i))]

end Cert.KernelIdealProof
-- ==== Proof.StateIdeal.lean ====
/-
# The state of a device between two operations

`St m c n i` is what device `c` holds for chunk `i` at stage `n` (0 … 12); `SlotSt m c s a` what it holds of a staging
slot; `Gst` puts together the chunks, the slots, the barrier, what is owed, and the shared records. Each operation of
the kernel advances one chunk, one slot or the barrier: `focus` and `refocus` take that one out of its family and put it
back.
-/
module

public import proofs.«01_k».proof.Proof.ProtoIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families -/

section Families
variable {ι κ : Type} [Fintype ι] [DecidableEq ι]

theorem focus (Φ : ι → κ → sProp 𝕄) (ph : ι → κ) (i : ι) : (bigSep Finset.univ fun j => Φ j (ph j)) = iprop(Φ i (ph i) ∗ bigSep (Finset.univ.erase i) fun j => Φ j (ph j)) :=
  bigSep_univ_at _ i

theorem refocus (Φ : ι → κ → sProp 𝕄) (ph : ι → κ) (i : ι) (n : κ) : iprop(Φ i n ∗ bigSep (Finset.univ.erase i) fun j => Φ j (ph j))
    = bigSep Finset.univ fun j => Φ j (Function.update ph i n j) := by
  rw [bigSep_univ_at _ i, Function.update_self]
  congr 1
  refine bigSep_congr fun j hj => ?_
  rw [Function.update_of_ne (Finset.ne_of_mem_erase hj)]

end Families

/-! ## The pieces -/

def sAny (c : Dev nD) (i : Fin 14) : sProp 𝕄 := iprop(∃ f : Buf (Elt F) (sL c), (sL c) ↦[chS i]{fullShare} f)
def vAny (c : Dev nD) (i : Fin 14) : sProp 𝕄 := iprop(∃ f : Buf (Elt F) (vL c), (vL c) ↦[chS i]{fullShare} f)
def uAny (c : Dev nD) (i : Fin 14) : sProp 𝕄 := iprop(∃ f : Buf (Elt F) (uL c), (uL c) ↦[chS i]{fullShare} f)
def oAny (c : Dev nD) (h : ℕ) (i : Fin 14) : sProp 𝕄 := iprop(∃ f : Buf (Elt F) (oL c), (oL c) ↦[outS h i]{fullShare} f)

/-- The tokens the copy across the first axis pays with, -/
def tX (c : Dev nD) (i : Fin 14) : sProp 𝕄 := iprop(dutyTok ER (dCell c 0 i) 0 false ∗ dutyTok ER (dCell (pX c) 1 i) 0 false)
/-- along the second; -/
def tY (c : Dev nD) (i : Fin 14) : sProp 𝕄 := iprop(dutyTok ER (dCell c 2 i) 0 false ∗ dutyTok ER (dCell (pY c) 3 i) 0 false)
/-- the position at a cell, -/
def at0 (c : Dev nD) (k : Fin 4) (i : Fin 14) : sProp 𝕄 := atPos ER (dCell c k i) 0 ∅ 0
/-- and with it the credit to wait there. -/
def at1 (c : Dev nD) (k : Fin 4) (i : Fin 14) : sProp 𝕄 := iprop(atPos ER (dCell c k i) 0 ∅ 0 ∗ cred (tallyAt (dCell c k i) () (NN i)))
/-- The cell closed. -/
def zd (c : Dev nD) (k : Fin 4) (i : Fin 14) : sProp 𝕄 := semVal (dCell c k i) 0
/-- The semaphore of the chunk's copy into the result, at rest; -/
def zo (c : Dev nD) (i : Fin 14) : sProp 𝕄 := semVal ((c : Thread nD τ), .dma (oS i)) 0
/-- that copy under way. -/
def fo (c : Dev nD) (i : Fin 14) : sProp 𝕄 :=
  Transfers.Flight countersEmb (c : Thread nD τ) (.dma (oS i)) () (NN i)
    iprop(((oL c) ↦[outS (my c) i]{fullShare} outV m c) ∗ ((uL c) ↦[chS i]{qA} sumV m c))

def sIs (c : Dev nD) (i : Fin 14) : sProp 𝕄 := (sL c) ↦[chS i]{fullShare} sendV m c
def vIs (c : Dev nD) (i : Fin 14) : sProp 𝕄 := (vL c) ↦[chS i]{fullShare} recvV m c
def uKeep (c : Dev nD) (i : Fin 14) : sProp 𝕄 := (uL c) ↦[chS i]{fullShare} keepV m c
def uSum (c : Dev nD) (q : PosShare TreeShare) (i : Fin 14) : sProp 𝕄 := (uL c) ↦[chS i]{q} sumV m c
def oIs (c : Dev nD) (h : ℕ) (i : Fin 14) : sProp 𝕄 := (oL c) ↦[outS h i]{fullShare} outV m c

/-- What the barrier adds to a chunk: the landing places on the two neighbours. -/
def landing (c : Dev nD) (i : Fin 14) : sProp 𝕄 := iprop(vAny (pX c) i ∗ oAny (pY c) (my c) i)

/-- The part of a chunk's ghost state that the copy across the first axis leaves alone. -/
def later (c : Dev nD) (i : Fin 14) : sProp 𝕄 := iprop(at1 c 1 i ∗ tY c i ∗ at0 c 2 i ∗ at1 c 3 i ∗ zo c i ∗ oAny (F := F) c (my c) i)

/-- Chunk `i` at stage `n`. -/
def St (c : Dev nD) (i : Fin 14) (n : ℕ) : sProp 𝕄 :=
  match n with
  | 0 => iprop((tX c i ∗ at0 c 0 i) ∗ later c i ∗ uAny c i ∗ sAny c i)
  | 1 => iprop((tX c i ∗ at0 c 0 i) ∗ later c i ∗ uKeep m c i ∗ sIs m c i)
  | 2 => iprop(((tX c i ∗ at0 c 0 i) ∗ later c i ∗ uAny c i ∗ sAny c i) ∗ landing c i)
  | 3 => iprop(((tX c i ∗ at0 c 0 i) ∗ later c i ∗ uKeep m c i ∗ sIs m c i) ∗ landing c i)
  | 4 => iprop(at1 c 0 i ∗ later c i ∗ uKeep m c i ∗ oAny (pY c) (my c) i)
  | 5 => iprop(at1 c 0 i ∗ (zd c 1 i ∗ vIs m c i) ∗ (tY c i ∗ at0 c 2 i ∗ at1 c 3 i) ∗ (zo c i ∗ oAny c (my c) i) ∗ uKeep m c i ∗ oAny (pY c) (my c) i)
  | 6 => iprop(at1 c 0 i ∗ (zd c 1 i ∗ vIs m c i) ∗ (tY c i ∗ at0 c 2 i ∗ at1 c 3 i) ∗ (zo c i ∗ oAny c (my c) i) ∗ uSum m c fullShare i ∗ oAny (pY c) (my c) i)
  | 7 => iprop(at1 c 0 i ∗ (zd c 1 i ∗ vIs m c i) ∗ (tY c i ∗ at0 c 2 i ∗ at1 c 3 i) ∗ fo m c i ∗ uSum m c qB i ∗ oAny (pY c) (my c) i)
  | 8 => iprop(at1 c 0 i ∗ (zd c 1 i ∗ vIs m c i) ∗ (at1 c 2 i ∗ at1 c 3 i) ∗ fo m c i)
  | 9 => iprop(at1 c 0 i ∗ (zd c 1 i ∗ vIs m c i) ∗ at1 c 2 i ∗ (zd c 3 i ∗ oIs m c (1 - my c) i) ∗ fo m c i)
  | 10 => iprop(at1 c 0 i ∗ (zd c 1 i ∗ vIs m c i) ∗ at1 c 2 i ∗ (zd c 3 i ∗ oIs m c (1 - my c) i) ∗ zo c i ∗ oIs m c (my c) i ∗ uSum m c qA i)
  | 11 => iprop((zd c 0 i ∗ sAny c i) ∗ (zd c 1 i ∗ vIs m c i) ∗ at1 c 2 i ∗ (zd c 3 i ∗ oIs m c (1 - my c) i) ∗ zo c i ∗ oIs m c (my c) i ∗ uSum m c qA i)
  | _ => iprop((zd c 0 i ∗ sAny c i) ∗ (zd c 1 i ∗ vIs m c i) ∗ (zd c 2 i ∗ uSum m c qB i) ∗ (zd c 3 i ∗ oIs m c (1 - my c) i) ∗ zo c i ∗ oIs m c (my c) i ∗ uSum m c qA i)

theorem St_0 (c : Dev nD) (i : Fin 14) : St m c i 0 = iprop((tX c i ∗ at0 c 0 i) ∗ later c i ∗ uAny c i ∗ sAny c i) := rfl
theorem St_1 (c : Dev nD) (i : Fin 14) : St m c i 1 = iprop((tX c i ∗ at0 c 0 i) ∗ later c i ∗ uKeep m c i ∗ sIs m c i) := rfl
theorem St_2 (c : Dev nD) (i : Fin 14) : St m c i 2 = iprop(((tX c i ∗ at0 c 0 i) ∗ later c i ∗ uAny c i ∗ sAny c i) ∗ landing c i) := rfl
theorem St_3 (c : Dev nD) (i : Fin 14) : St m c i 3 = iprop(((tX c i ∗ at0 c 0 i) ∗ later c i ∗ uKeep m c i ∗ sIs m c i) ∗ landing c i) := rfl
theorem St_4 (c : Dev nD) (i : Fin 14) : St m c i 4 = iprop(at1 c 0 i ∗ later c i ∗ uKeep m c i ∗ oAny (pY c) (my c) i) := rfl
theorem St_5 (c : Dev nD) (i : Fin 14) : St m c i 5 = iprop(at1 c 0 i ∗ (zd c 1 i ∗ vIs m c i) ∗ (tY c i ∗ at0 c 2 i ∗ at1 c 3 i) ∗ (zo c i ∗ oAny c (my c) i) ∗ uKeep m c i ∗ oAny (pY c) (my c) i) := rfl
theorem St_6 (c : Dev nD) (i : Fin 14) : St m c i 6 = iprop(at1 c 0 i ∗ (zd c 1 i ∗ vIs m c i) ∗ (tY c i ∗ at0 c 2 i ∗ at1 c 3 i) ∗ (zo c i ∗ oAny c (my c) i) ∗ uSum m c fullShare i ∗ oAny (pY c) (my c) i) := rfl
theorem St_7 (c : Dev nD) (i : Fin 14) : St m c i 7 = iprop(at1 c 0 i ∗ (zd c 1 i ∗ vIs m c i) ∗ (tY c i ∗ at0 c 2 i ∗ at1 c 3 i) ∗ fo m c i ∗ uSum m c qB i ∗ oAny (pY c) (my c) i) := rfl
theorem St_8 (c : Dev nD) (i : Fin 14) : St m c i 8 = iprop(at1 c 0 i ∗ (zd c 1 i ∗ vIs m c i) ∗ (at1 c 2 i ∗ at1 c 3 i) ∗ fo m c i) := rfl
theorem St_9 (c : Dev nD) (i : Fin 14) : St m c i 9 = iprop(at1 c 0 i ∗ (zd c 1 i ∗ vIs m c i) ∗ at1 c 2 i ∗ (zd c 3 i ∗ oIs m c (1 - my c) i) ∗ fo m c i) := rfl
theorem St_10 (c : Dev nD) (i : Fin 14) : St m c i 10 = iprop(at1 c 0 i ∗ (zd c 1 i ∗ vIs m c i) ∗ at1 c 2 i ∗ (zd c 3 i ∗ oIs m c (1 - my c) i) ∗ zo c i ∗ oIs m c (my c) i ∗ uSum m c qA i) := rfl
theorem St_11 (c : Dev nD) (i : Fin 14) : St m c i 11 = iprop((zd c 0 i ∗ sAny c i) ∗ (zd c 1 i ∗ vIs m c i) ∗ at1 c 2 i ∗ (zd c 3 i ∗ oIs m c (1 - my c) i) ∗ zo c i ∗ oIs m c (my c) i ∗ uSum m c qA i) := rfl
theorem St_12 (c : Dev nD) (i : Fin 14) : St m c i 12 = iprop((zd c 0 i ∗ sAny c i) ∗ (zd c 1 i ∗ vIs m c i) ∗ (zd c 2 i ∗ uSum m c qB i) ∗ (zd c 3 i ∗ oIs m c (1 - my c) i) ∗ zo c i ∗ oIs m c (my c) i ∗ uSum m c qA i) := rfl

/-! ## The staging slots -/

/-- A slot: unused, waiting for chunk `i`, or holding it. -/
inductive Slot | free | busy (i : Fin 14) | full (i : Fin 14)
  deriving DecidableEq

/-- Slot `s` of `f` holds the rows of chunk `i` of `c`'s half. -/
def holds (c : Dev nD) (s : Fin 2) (i : Fin 14) (f : S2x512x2048.Idx → Elt F .f32) : Prop :=
  ∀ x : S2x512x2048.Idx, (x 0).val = s.val → (x 1).val < SZ i → f x = X m c (ix3 (my c * 4096 + OFF i + (x 1).val) (x 2).val)

def qS (s : Fin 2) : PosShare TreeShare := if s = 0 then qA else qB

def NI (i : Fin 14) : ℕ := RefSig.tileCredit ⟨2, ![SZ i, 2048]⟩ .f32
theorem NI_pos (i : Fin 14) : 0 < NI i := RefSig.tileCredit_pos _ _ (by
  have := SZ_pos i
  show 0 < ∏ a : Fin 2, (![SZ i, 2048] : Fin 2 → ℕ) a
  rw [Fin.prod_univ_two]; exact Nat.mul_pos this (show 0 < 2048 by decide))

/-- The semaphore of slot `s`, at rest. -/
def zi (c : Dev nD) (s : Fin 2) : sProp 𝕄 := semVal ((c : Thread nD τ), .dma (iS s)) 0

def SlotSt (c : Dev nD) (s : Fin 2) (a : Slot) : sProp 𝕄 :=
  match a with
  | .free => iprop(zi c s ∗ (∃ f : Buf (Elt F) (fL c), (fL c) ↦[slotS s]{fullShare} f) ∗ ((xL c) ↦{qS s} X m c))
  | .busy i => iprop(∃ (f : Buf (Elt F) (fL c)) (T : Finset (Idx (xL c))), ⌜holds m c s i f⌝
      ∗ Transfers.Flight countersEmb (c : Thread nD τ) (.dma (iS s)) () (NI i) iprop(((fL c) ↦[slotS s]{fullShare} f) ∗ ((xL c) ↦[T]{qS s} X m c))
      ∗ ((xL c) ↦[Finset.univ \ T]{qS s} X m c))
  | .full i => iprop(zi c s ∗ (∃ f : Buf (Elt F) (fL c), ⌜holds m c s i f⌝ ∗ ((fL c) ↦[slotS s]{fullShare} f)) ∗ ((xL c) ↦{qS s} X m c))

theorem SlotSt_free (c : Dev nD) (s : Fin 2) : SlotSt m c s .free
    = iprop(zi c s ∗ (∃ f : Buf (Elt F) (fL c), (fL c) ↦[slotS s]{fullShare} f) ∗ ((xL c) ↦{qS s} X m c)) := rfl
theorem SlotSt_busy (c : Dev nD) (s : Fin 2) (i : Fin 14) : SlotSt m c s (.busy i)
    = iprop(∃ (f : Buf (Elt F) (fL c)) (T : Finset (Idx (xL c))), ⌜holds m c s i f⌝
      ∗ Transfers.Flight countersEmb (c : Thread nD τ) (.dma (iS s)) () (NI i) iprop(((fL c) ↦[slotS s]{fullShare} f) ∗ ((xL c) ↦[T]{qS s} X m c))
      ∗ ((xL c) ↦[Finset.univ \ T]{qS s} X m c)) := rfl
theorem SlotSt_full (c : Dev nD) (s : Fin 2) (i : Fin 14) : SlotSt m c s (.full i)
    = iprop(zi c s ∗ (∃ f : Buf (Elt F) (fL c), ⌜holds m c s i f⌝ ∗ ((fL c) ↦[slotS s]{fullShare} f)) ∗ ((xL c) ↦{qS s} X m c)) := rfl

/-! ## The barrier, the records, the state -/

def BarSt (c : Dev nD) (b : ℕ) : sProp 𝕄 :=
  match b with
  | 0 => iprop(atPos ER (barCell c) 0 ∅ 0 ∗ cred (tallyAt (barCell c) () 2)
      ∗ (dutyTok ER (barCell (pY c)) 0 true ∗ ∃ f : Buf (Elt F) (oL c), (oL c) ↦[halfS (1 - my c)]{fullShare} f)
      ∗ (dutyTok ER (barCell (pX c)) 0 false ∗ ∃ f : Buf (Elt F) (vL c), (vL c) ↦{fullShare} f))
  | 1 => iprop(atPos ER (barCell c) 0 ∅ 0 ∗ cred (tallyAt (barCell c) () 2)
      ∗ (dutyTok ER (barCell (pY c)) 0 true ∗ ∃ f : Buf (Elt F) (oL c), (oL c) ↦[halfS (1 - my c)]{fullShare} f))
  | 2 => iprop(atPos ER (barCell c) 0 ∅ 0 ∗ cred (tallyAt (barCell c) () 2))
  | _ => semVal (barCell c) 0

theorem BarSt_0 (c : Dev nD) : (BarSt c 0 : sProp 𝕄) = iprop(atPos ER (barCell c) 0 ∅ 0 ∗ cred (tallyAt (barCell c) () 2)
      ∗ (dutyTok ER (barCell (pY c)) 0 true ∗ ∃ f : Buf (Elt F) (oL c), (oL c) ↦[halfS (1 - my c)]{fullShare} f)
      ∗ (dutyTok ER (barCell (pX c)) 0 false ∗ ∃ f : Buf (Elt F) (vL c), (vL c) ↦{fullShare} f)) := rfl
theorem BarSt_1 (c : Dev nD) : (BarSt c 1 : sProp 𝕄) = iprop(atPos ER (barCell c) 0 ∅ 0 ∗ cred (tallyAt (barCell c) () 2)
      ∗ (dutyTok ER (barCell (pY c)) 0 true ∗ ∃ f : Buf (Elt F) (oL c), (oL c) ↦[halfS (1 - my c)]{fullShare} f)) := rfl
theorem BarSt_2 (c : Dev nD) : (BarSt c 2 : sProp 𝕄) = iprop(atPos ER (barCell c) 0 ∅ 0 ∗ cred (tallyAt (barCell c) () 2)) := rfl
theorem BarSt_3 (c : Dev nD) : (BarSt c 3 : sProp 𝕄) = semVal (barCell c) 0 := rfl

/-- The protocol's cells on one device: the barrier, and the 56 of the copies. -/
abbrev CI : Type := Option (Fin 4 × Fin 14)
def kcell (p : Dev nD × CI) : GSem nD τ sig := match p.2 with | none => barCell p.1 | some (k, i) => dCell p.1 k i

variable (K : Dev nD × CI → ℕ)

/-- Every cell's invariant, and that it is in its first round. -/
def records : sProp 𝕄 := bigSep Finset.univ fun p : Dev nD × CI => iprop(cellInv ER (Rd m) (K p) (kcell p) ∗ reached ER (kcell p) 0)

instance records_persistent : BI.Persistent (records m K) := by unfold records; infer_instance

theorem records_at (p : Dev nD × CI) : records m K ⊢ iprop(cellInv ER (Rd m) (K p) (kcell p) ∗ reached ER (kcell p) 0) := by
  unfold records; exact bigSep_elim (Finset.mem_univ p)

/-- The state of device `c`: `b` says how far its handshake is, `ph` the chunks' stages, `sl` the slots'. -/
def Gst (c : Dev nD) (b : ℕ) (ph : Fin 14 → ℕ) (sl : Fin 2 → Slot) : sProp 𝕄 :=
  iprop((records m K ∗ levAts L lv) ∗ (∃ W, owes (c : Thread nD τ) (ow c b ph) W) ∗ BarSt c b
    ∗ (bigSep Finset.univ fun j => St m c j (ph j)) ∗ (bigSep Finset.univ fun s => SlotSt m c s (sl s)))

abbrev 𝒱₀ : Variants := Variants.none

/-- Device `c` runs `p` and ends in `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- To advance chunk `i` it is enough to advance what it holds, paying what the step pays. -/
theorem adv (c : Dev nD) (b : ℕ) (ph : Fin 14 → ℕ) (sl : Fin 2 → Slot) (i : Fin 14) (n n' : ℕ) (hn : ph i = n) {P P' : sProp 𝕄}
    (h : iprop((records m K ∗ levAts L lv) ∗ (∃ W, owes (c : Thread nD τ) (ow c b ph) W) ∗ St m c i n ∗
        ((∃ W, owes (c : Thread nD τ) (ow c b (upd ph i n')) W) -∗ St m c i n' -∗ P)) ⊢ P')
    (hP : Gst m K c b (upd ph i n') sl ⊢ P) : Gst m K c b ph sl ⊢ P' := by
  refine (show _ ⊢ _ from ?_).trans h
  unfold Gst at hP ⊢
  rw [focus (St m c) ph i, hn]
  iintro ⟨#HR, HO, HB, ⟨Hi, Hr⟩, HS⟩
  isplitr; · iexact HR
  isplitl [HO]; · iexact HO
  isplitl [Hi]; · iexact Hi
  iintro HO Hi
  iapply hP
  isplitr; · iexact HR
  isplitl [HO]; · iexact HO
  isplitl [HB]; · iexact HB
  isplitr [HS]
  · rw [← refocus (St m c) ph i n']
    isplitl [Hi]; · iexact Hi
    iexact Hr
  iexact HS

/-- The same for a slot. -/
theorem advS (c : Dev nD) (b : ℕ) (ph : Fin 14 → ℕ) (sl : Fin 2 → Slot) (s : Fin 2) (a a' : Slot) (hs : sl s = a) {P P' : sProp 𝕄}
    (h : iprop((records m K ∗ levAts L lv) ∗ (∃ W, owes (c : Thread nD τ) (ow c b ph) W) ∗ SlotSt m c s a ∗
        ((∃ W, owes (c : Thread nD τ) (ow c b ph) W) -∗ SlotSt m c s a' -∗ P)) ⊢ P')
    (hP : Gst m K c b ph (Function.update sl s a') ⊢ P) : Gst m K c b ph sl ⊢ P' := by
  refine (show _ ⊢ _ from ?_).trans h
  unfold Gst at hP ⊢
  rw [focus (SlotSt m c) sl s, hs]
  iintro ⟨#HR, HO, HB, HC, Hi, Hr⟩
  isplitr; · iexact HR
  isplitl [HO]; · iexact HO
  isplitl [Hi]; · iexact Hi
  iintro HO Hi
  iapply hP
  isplitr; · iexact HR
  isplitl [HO]; · iexact HO
  isplitl [HB]; · iexact HB
  isplitl [HC]; · iexact HC
  rw [← refocus (SlotSt m c) sl s a']
  isplitl [Hi]; · iexact Hi
  iexact Hr

end Cert.KernelIdealProof
-- ==== Proof.StepsIdeal.lean ====
/-
# The operations that move no data by themselves: signals and waits
-/
module

public import proofs.«01_k».proof.Proof.StateIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The operations a device runs. -/
abbrev Pr (F : FTy → Type) [FloatOps F] (α : Type) := Prog (TpuEff nD τ sig (Elt F) Λ₀ .tc) α

/-! ## The two signals -/

theorem ow_sig1 (c : Dev nD) (ph : Fin 14 → ℕ) : ow c 0 ph = ow c 1 ph + tallyAt (barCell (pX c)) () 1 := by
  unfold ow
  rw [if_pos (show 0 < 1 by decide), if_neg (show ¬ 1 < 1 by decide), add_zero, if_pos (show 0 < 2 by decide), if_pos (show 1 < 2 by decide)]
theorem ow_sig2 (c : Dev nD) (ph : Fin 14 → ℕ) : ow c 1 ph = ow c 2 ph + tallyAt (barCell (pY c)) () 1 := by
  unfold ow
  rw [if_neg (show ¬ 1 < 1 by decide), add_zero, if_pos (show 1 < 2 by decide), if_neg (show ¬ 2 < 2 by decide), if_neg (show ¬ 2 < 1 by decide), add_zero, add_zero]

/-- The signal to the neighbour across the first axis, which hands over the receive buffer. -/
theorem step_sig1 (c : Dev nD) (ph : Fin 14 → ℕ) (sl : Fin 2 → Slot) (d : Dev nD) (hd : d = pX c) (n : ℕ) (hn : n = 1) {α : Type}
    (k : PUnit → Pr F α) (Q : α → sProp 𝕄) (h : Gst m K c 1 ph sl ⊢ run c (k ⟨⟩) Q) :
    Gst m K c 0 ph sl ⊢ run c (.op (.semSignal (Dev.tc d) barS n) k) Q := by
  subst hd hn
  refine (show _ ⊢ _ from ?_)
  unfold Gst; rw [BarSt_0]
  iintro ⟨⟨#HR, #HL⟩, ⟨%W, HO⟩, ⟨Hat, Hcr, HY, Ht, Hv⟩, Hrest⟩
  ihave Hc := (records_at m K (pX c, none)) $$ HR
  icases Hc with ⟨#HI, #Hre⟩
  iapply (Rounds.wp_signal 𝒱₀ ER (Rd m) (c : Thread nD τ) none (dst := (pX c : Thread nD τ)) (κ := K (pX c, none))
      (d := false) (by rw [duties_bar]; exact Finset.mem_univ _) (amount_bar m (pX c) false) () (ow c 1 ph)
      (ow_sig1 c ph))
    $$ [HO Ht Hv]
  · isplitr; · iexact HI
    isplitl [HO]; · iexact HO
    isplitl [Ht]; · iexact Ht
    isplitl [Hv]
    · rw [payload_bar]; unfold barPay; rw [if_neg (by decide), pX_pX]; iexact Hv
    iexact Hre
  iintro HO
  iapply h
  unfold Gst; rw [BarSt_1]
  isplitr
  · isplitr; · iexact HR
    iexact HL
  isplitl [HO]; · iexists W; iexact HO
  isplitl [Hat Hcr HY]
  · isplitl [Hat]; · iexact Hat
    isplitl [Hcr]; · iexact Hcr
    iexact HY
  iexact Hrest

/-- The signal to the neighbour along the second axis, which hands over the rows of that neighbour's half. -/
theorem step_sig2 (c : Dev nD) (ph : Fin 14 → ℕ) (sl : Fin 2 → Slot) (d : Dev nD) (hd : d = pY c) (n : ℕ) (hn : n = 1) {α : Type}
    (k : PUnit → Pr F α) (Q : α → sProp 𝕄) (h : Gst m K c 2 ph sl ⊢ run c (k ⟨⟩) Q) :
    Gst m K c 1 ph sl ⊢ run c (.op (.semSignal (Dev.tc d) barS n) k) Q := by
  subst hd hn
  refine (show _ ⊢ _ from ?_)
  unfold Gst; rw [BarSt_1]
  iintro ⟨⟨#HR, #HL⟩, ⟨%W, HO⟩, ⟨Hat, Hcr, Ht, Hv⟩, Hrest⟩
  ihave Hc := (records_at m K (pY c, none)) $$ HR
  icases Hc with ⟨#HI, #Hre⟩
  iapply (Rounds.wp_signal 𝒱₀ ER (Rd m) (c : Thread nD τ) none (dst := (pY c : Thread nD τ)) (κ := K (pY c, none))
      (d := true) (by rw [duties_bar]; exact Finset.mem_univ _) (amount_bar m (pY c) true) () (ow c 2 ph)
      (ow_sig2 c ph))
    $$ [HO Ht Hv]
  · isplitr; · iexact HI
    isplitl [HO]; · iexact HO
    isplitl [Ht]; · iexact Ht
    isplitl [Hv]
    · rw [payload_bar]; unfold barPay; rw [if_pos rfl, pY_pY, my_pY]; iexact Hv
    iexact Hre
  iintro HO
  iapply h
  unfold Gst; rw [BarSt_2]
  isplitr
  · isplitr; · iexact HR
    iexact HL
  isplitl [HO]; · iexists W; iexact HO
  isplitl [Hat Hcr]
  · isplitl [Hat]; · iexact Hat
    iexact Hcr
  iexact Hrest

/-! ## The wait at the barrier -/

theorem ow_lift (c : Dev nD) (ph : Fin 14 → ℕ) (hp : ∀ j, ph j < 2) : ow c 2 ph = ow c 3 (fun j => ph j + 2) := by
  unfold ow
  simp only [show ∀ j, (ph j < 4 ↔ ph j + 2 < 4) from fun j => by have := hp j; omega, show ∀ j, (ph j < 8 ↔ ph j + 2 < 8) from fun j => by have := hp j; omega]
  rfl

theorem St_lift (c : Dev nD) (i : Fin 14) (n : ℕ) (hn : n < 2) : St m c i (n + 2) = iprop(St m c i n ∗ landing c i) := by
  match n, hn with
  | 0, _ => rfl
  | 1, _ => rfl

theorem vAny_intro (c : Dev nD) (f : Buf (Elt F) (vL c)) : ((vL c) ↦{fullShare} f : sProp 𝕄) ⊢ bigSep Finset.univ fun i => vAny c i := by
  have h0 := chunks_cover 4096 0
  rw [rows_univ] at h0
  rw [← h0, pointsTo_biUnion Finset.univ _ (fun i _ j _ hij => chunks_disjoint 4096 0 i j hij)]
  exact bigSep_mono fun i _ => (show ((vL c) ↦[chS i]{fullShare} f : sProp 𝕄) ⊢ vAny c i by
    unfold vAny; iintro H; iexists f; iexact H)

theorem oAny_intro (c : Dev nD) (b : ℕ) (f : Buf (Elt F) (oL c)) :
    ((oL c) ↦[halfS b]{fullShare} f : sProp 𝕄) ⊢ bigSep Finset.univ fun i => oAny c b i := by
  rw [show halfS b = _ from (chunks_cover 8192 (b * 4096)).symm,
      pointsTo_biUnion Finset.univ _ (fun i _ j _ hij => chunks_disjoint 8192 (b * 4096) i j hij)]
  exact bigSep_mono fun i _ => (show ((oL c) ↦[outS b i]{fullShare} f : sProp 𝕄) ⊢ oAny c b i by
    unfold oAny; iintro H; iexists f; iexact H)

/-- The receive buffer across and the neighbour's half come apart into the chunks' landing places. -/
theorem landing_intro (c : Dev nD) : iprop((barPay c false : sProp 𝕄) ∗ barPay c true) ⊢ bigSep Finset.univ fun i => landing c i := by
  unfold barPay landing
  rw [if_neg (by decide), if_pos rfl, bigSep_sep']
  refine (show _ ⊢ _ from ?_)
  iintro ⟨⟨%f, Hf⟩, ⟨%g, Hg⟩⟩
  isplitl [Hf]
  · iapply (vAny_intro (pX c) f); iexact Hf
  iapply (oAny_intro (pY c) (my c) g); iexact Hg

/-- The wait for both neighbours: every chunk gets its landing places. -/
theorem step_bar (c : Dev nD) (ph : Fin 14 → ℕ) (sl : Fin 2 → Slot) (hp : ∀ j, ph j < 2) (n : ℕ) (hn : n = 2) {α : Type}
    (k : PUnit → Pr F α) (Q : α → sProp 𝕄) (h : Gst m K c 3 (fun j => ph j + 2) sl ⊢ run c (k ⟨⟩) Q) :
    Gst m K c 2 ph sl ⊢ run c (.op (.semWait barS n) k) Q := by
  subst hn
  refine (show _ ⊢ _ from ?_)
  unfold Gst; rw [BarSt_2]
  iintro ⟨⟨#HR, #HL⟩, ⟨%W, HO⟩, ⟨Hat, Hcr⟩, HC, HS⟩
  ihave Hc := (records_at m K (c, none)) $$ HR
  icases Hc with ⟨#HI, -⟩
  iapply (Rounds.wp_wait_rest_token 𝒱₀ ER (Rd m) (c : Thread nD τ) none (κ := K (c, none))
      (wpE_semWait_eq 𝒱₀ (c : Thread nD τ) none Set.univ) (Set.mem_univ _) () (O := ow c 2 ph) (W := W) (R := 0) (m := 0) (T := ∅)
      (by rw [expect_bar])) $$ [Hcr HO Hat]
  · isplitr; · iexact HI
    isplitl [Hcr]; · iexact Hcr
    isplitl [HO]; · iexact HO
    isplitr
    · iapply (mayWait c (.reg barS) 2 ph 1 le_rfl (.inr le_rfl) (.inl (by decide)) (.inl (by decide))); iexact HL
    iexact Hat
  iintro ⟨HO, Hat, -, Hpay⟩
  imod (Rounds.cell_close ER (Rd m) (Set.mem_univ (K (c, none))) (fun h => h) (R := 0 + 1) (duties_later m (barCell c))) $$ [Hat] with Hz
  · isplitr; · iexact HI
    iexact Hat
  ihave Hp := (Entails.of_eq (rest_bar m c)) $$ Hpay
  ihave Hl := (landing_intro c) $$ Hp
  iapply h
  unfold Gst; rw [BarSt_3]
  isplitr
  · isplitr; · iexact HR
    iexact HL
  isplitl [HO]
  · iexists _; rw [← ow_lift c ph hp]; iexact HO
  isplitl [Hz]; · iexact Hz
  isplitl [HC Hl]
  · rw [bigSep_congr fun j _ => St_lift m c j (ph j) (hp j), bigSep_sep']
    isplitl [HC]; · iexact HC
    iexact Hl
  iexact HS

/-! ## A wait for a landing -/

/-- The wait of a device at one of its own cells: the landing's payload comes, and the cell closes. -/
theorem wait_round (c : Dev nD) (b : ℕ) (ph : Fin 14 → ℕ) (k : Fin 4) (i : Fin 14)
    (h1 : lv (dCell c k i) () < 1 ∨ 2 ≤ b) (h2 : lv (dCell c k i) () < 2 ∨ ∀ j, 4 ≤ ph j) (h3 : lv (dCell c k i) () < 3 ∨ ∀ j, 8 ≤ ph j)
    {sp sp' : Space} {s s' : Shape} {e e' : EltTy} {κ' : Kind} (q : DmaSem sig) (hq : q = dS k i)
    (src : Memref sig .tc sp' s' e') (dst : Memref sig κ' sp s e) (hN : dst.view.dmaCredit = NN i)
    {hsrc : src.view.WordExact} {hdst : dst.view.WordExact} {α : Type} (p : PUnit → Pr F α) (Q : α → sProp 𝕄) :
    iprop((records m K ∗ levAts L lv) ∗ (∃ W, owes (c : Thread nD τ) (ow c b ph) W) ∗ at1 c k i) ⊢
      iprop(((∃ W, owes (c : Thread nD τ) (ow c b ph) W) -∗ zd c k i -∗ dPay m c k.val i -∗ run c (p ⟨⟩) Q)
        -∗ run c (.op (.waitDma2 q src dst hsrc hdst) p) Q) := by
  subst hq
  unfold at1 zd
  iintro ⟨⟨#HR, #HL⟩, ⟨%W, HO⟩, Hat, Hcr⟩ Hk
  ihave Hc := (records_at m K (c, some (k, i))) $$ HR
  icases Hc with ⟨#HI, -⟩
  iapply (Rounds.wp_wait_rest_token 𝒱₀ ER (Rd m) (c : Thread nD τ) none (κ := K (c, some (k, i)))
      (wpE_waitDma2_eq 𝒱₀ (c : Thread nD τ) none Set.univ) (Set.mem_univ _) () (O := ow c b ph) (W := W) (R := 0) (m := 0) (T := ∅)
      (by rw [expect_d, hN, Nat.zero_add])) $$ [Hcr HO Hat]
  · isplitr; · iexact HI
    isplitl [Hcr]; · rw [hN]; iexact Hcr
    isplitl [HO]; · iexact HO
    isplitr
    · iapply (mayWait c (.dma (dS k i)) b ph _ le_rfl h1 h2 h3); iexact HL
    iexact Hat
  iintro ⟨HO, Hat, -, Hpay⟩
  imod (Rounds.cell_close ER (Rd m) (Set.mem_univ (K (c, some (k, i)))) (fun h => h) (R := 0 + 1) (duties_later m (dCell c k i))) $$ [Hat] with Hz
  · isplitr; · iexact HI
    iexact Hat
  ihave Hp := (Entails.of_eq (rest_d m c k i)) $$ Hpay
  ispecialize Hk $$ [HO]
  · iexists _; iexact HO
  ispecialize Hk $$ Hz
  iapply Hk
  iexact Hp

section Waits
variable (c : Dev nD) (b : ℕ) (ph : Fin 14 → ℕ) (sl : Fin 2 → Slot) (i : Fin 14)
  {sp sp' : Space} {s s' : Shape} {e e' : EltTy} {κ' : Kind} (q : DmaSem sig)
  (src : Memref sig .tc sp' s' e') (dst : Memref sig κ' sp s e)
  {hsrc : src.view.WordExact} {hdst : dst.view.WordExact} {α : Type} (p : PUnit.{1} → Pr F α)

/-- The neighbour's chunk has come across the first axis. -/
theorem step_xrecv (Q : α → sProp 𝕄) (hN : dst.view.dmaCredit = NN i) (hq : q = dS 1 i) (hp : ph i = 4) (hb : 2 ≤ b) (h4 : ∀ j, 4 ≤ ph j)
    (h : Gst m K c b (upd ph i 5) sl ⊢ run c (p ⟨⟩) Q) : Gst m K c b ph sl ⊢ run c (.op (.waitDma2 q src dst hsrc hdst) p) Q := by
  refine adv m K c b ph sl i 4 5 hp (show _ ⊢ _ from ?_) h
  rw [ow_same c b ph i 5 (by omega) (by omega)]
  rw [St_4, St_5]; unfold later
  iintro ⟨HR, HO, ⟨Hx, ⟨Hr, Ht, H2, H3, Hz, Ho⟩, Hu, Hl⟩, Hk⟩
  iapply (wait_round m K c b ph 1 i (.inr hb) (.inr h4) (.inl (by rw [lv_d]; decide)) q hq src dst hN p Q) $$ [HR HO Hr]
  · isplitl [HR]; · iexact HR
    isplitl [HO]; · iexact HO
    iexact Hr
  iintro HO Hzd Hp
  ispecialize Hk $$ HO
  iapply Hk
  unfold dPay vIs
  isplitl [Hx]; · iexact Hx
  isplitl [Hzd Hp]
  · isplitl [Hzd]; · iexact Hzd
    iexact Hp
  isplitl [Ht H2 H3]
  · isplitl [Ht]; · iexact Ht
    isplitl [H2]; · iexact H2
    iexact H3
  isplitl [Hz Ho]
  · isplitl [Hz]; · iexact Hz
    iexact Ho
  isplitl [Hu]; · iexact Hu
  iexact Hl

/-- The neighbour's chunk of the result has come along the second axis. -/
theorem step_yrecv (Q : α → sProp 𝕄) (hN : dst.view.dmaCredit = NN i) (hq : q = dS 3 i) (hp : ph i = 8) (hb : 2 ≤ b) (h8 : ∀ j, 8 ≤ ph j)
    (h : Gst m K c b (upd ph i 9) sl ⊢ run c (p ⟨⟩) Q) : Gst m K c b ph sl ⊢ run c (.op (.waitDma2 q src dst hsrc hdst) p) Q := by
  refine adv m K c b ph sl i 8 9 hp (show _ ⊢ _ from ?_) h
  rw [ow_same c b ph i 9 (by omega) (by omega)]
  rw [St_8, St_9]
  iintro ⟨HR, HO, ⟨Hx, Hv, ⟨H2, H3⟩, Hf⟩, Hk⟩
  iapply (wait_round m K c b ph 3 i (.inr hb) (.inr fun j => (by decide : 4 ≤ 8).trans (h8 j)) (.inr h8) q hq src dst hN p Q) $$ [HR HO H3]
  · isplitl [HR]; · iexact HR
    isplitl [HO]; · iexact HO
    iexact H3
  iintro HO Hzd Hp
  ispecialize Hk $$ HO
  iapply Hk
  unfold dPay oIs
  isplitl [Hx]; · iexact Hx
  isplitl [Hv]; · iexact Hv
  isplitl [H2]; · iexact H2
  isplitl [Hzd Hp]
  · isplitl [Hzd]; · iexact Hzd
    iexact Hp
  iexact Hf

/-- The chunk sent across the first axis has left. -/
theorem step_xs (Q : α → sProp 𝕄) (hN : dst.view.dmaCredit = NN i) (hq : q = dS 0 i) (hp : ph i = 10)
    (h : Gst m K c b (upd ph i 11) sl ⊢ run c (p ⟨⟩) Q) : Gst m K c b ph sl ⊢ run c (.op (.waitDma2 q src dst hsrc hdst) p) Q := by
  refine adv m K c b ph sl i 10 11 hp (show _ ⊢ _ from ?_) h
  rw [ow_same c b ph i 11 (by omega) (by omega)]
  rw [St_10, St_11]
  iintro ⟨HR, HO, ⟨Hx, Hrest⟩, Hk⟩
  iapply (wait_round m K c b ph 0 i (.inl (by rw [lv_d]; decide)) (.inl (by rw [lv_d]; decide)) (.inl (by rw [lv_d]; decide)) q hq src dst hN p Q) $$ [HR HO Hx]
  · isplitl [HR]; · iexact HR
    isplitl [HO]; · iexact HO
    iexact Hx
  iintro HO Hzd Hp
  ispecialize Hk $$ HO
  iapply Hk
  unfold dPay sAny
  isplitl [Hzd Hp]
  · isplitl [Hzd]; · iexact Hzd
    iexact Hp
  iexact Hrest

/-- The chunk sent along the second axis has left. -/
theorem step_ys (Q : α → sProp 𝕄) (hN : dst.view.dmaCredit = NN i) (hq : q = dS 2 i) (hp : ph i = 11)
    (h : Gst m K c b (upd ph i 12) sl ⊢ run c (p ⟨⟩) Q) : Gst m K c b ph sl ⊢ run c (.op (.waitDma2 q src dst hsrc hdst) p) Q := by
  refine adv m K c b ph sl i 11 12 hp (show _ ⊢ _ from ?_) h
  rw [ow_same c b ph i 12 (by omega) (by omega)]
  rw [St_11, St_12]
  iintro ⟨HR, HO, ⟨Hx, Hv, H2, Hrest⟩, Hk⟩
  iapply (wait_round m K c b ph 2 i (.inl (by rw [lv_d]; decide)) (.inl (by rw [lv_d]; decide)) (.inl (by rw [lv_d]; decide)) q hq src dst hN p Q) $$ [HR HO H2]
  · isplitl [HR]; · iexact HR
    isplitl [HO]; · iexact HO
    iexact H2
  iintro HO Hzd Hp
  ispecialize Hk $$ HO
  iapply Hk
  unfold dPay uSum
  isplitl [Hx]; · iexact Hx
  isplitl [Hv]; · iexact Hv
  isplitl [Hzd Hp]
  · isplitl [Hzd]; · iexact Hzd
    iexact Hp
  iexact Hrest

/-- The chunk's copy into the result is done. -/
theorem step_owait (Q : α → sProp 𝕄) (hN : dst.view.dmaCredit = NN i) (hq : q = oS i) (hp : ph i = 9) (hlv : lv ((c : Thread nD τ), .dma (oS i)) () = 0)
    (h : Gst m K c b (upd ph i 10) sl ⊢ run c (p ⟨⟩) Q) : Gst m K c b ph sl ⊢ run c (.op (.waitDma2 q src dst hsrc hdst) p) Q := by
  subst hq
  refine adv m K c b ph sl i 9 10 hp (show _ ⊢ _ from ?_) h
  rw [ow_same c b ph i 10 (by omega) (by omega)]
  rw [St_9, St_10]; unfold fo
  iintro ⟨⟨#HR, #HL⟩, ⟨%W, HO⟩, ⟨Hx, Hv, H2, H3, Hf⟩, Hk⟩
  iapply (Transfers.wp_waitLocalO countersEmb 𝒱₀ (c : Thread nD τ) none () hN) $$ [HO Hf]
  · isplitl [Hf]; · iexact Hf
    isplitl [HO]; · iexact HO
    iapply (mayWait c (.dma (oS i)) b ph 0 hlv.le (.inl (by decide)) (.inl (by decide)) (.inl (by decide))); iexact HL
  iintro ⟨⟨Ho, Hu⟩, Hz, HO⟩
  ispecialize Hk $$ [HO]
  · iexists _; iexact HO
  iapply Hk
  unfold zo oIs uSum
  isplitl [Hx]; · iexact Hx
  isplitl [Hv]; · iexact Hv
  isplitl [H2]; · iexact H2
  isplitl [H3]; · iexact H3
  isplitl [Hz]; · iexact Hz
  isplitl [Ho]; · iexact Ho
  iexact Hu

end Waits

end Cert.KernelIdealProof
-- ==== Proof.MovesIdeal.lean ====
/-
# The copies between the devices and into the result
-/
module

public import proofs.«01_k».proof.Proof.StepsIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Rows of a buffer -/

theorem unit_set {n : ℕ} (o : Fin 2 → ℕ) (lo sz : ℕ) (h0 : o 0 = lo) (h1 : o 1 = 0) (hi : ∀ a, o a + (![sz, 1024] : Fin 2 → ℕ) a ≤ (⟨2, ![n, 1024]⟩ : Shape).size a) :
    (Rect.unit (s := ⟨2, ![n, 1024]⟩) o ![sz, 1024] hi).set = rows n lo sz := by
  ext x
  rw [Rect.mem_set_unit, mem_rows]
  constructor
  · intro h
    have := h 0
    rw [h0] at this
    exact this
  · intro h a
    match a with
    | 0 => rw [h0]; exact h
    | 1 => rw [h1]; exact ⟨Nat.zero_le _, (Nat.zero_add 1024).symm ▸ (x 1).isLt⟩

/-- Writing `w` through a view leaves `g` there when `g` is `w` seen through it. -/
theorem write_eq {κ : Kind} {sp : Space} {s : Shape} {e : EltTy} (v : View sig κ sp s e) (f : v.ty.Contents (Elt F)) (w : s.Idx → Elt F e) (g : v.ty.Contents (Elt F))
    (h : ∀ x, cast (congrArg (Elt F) v.elt_eq.symm) (w x) = g (v.emb x)) : ∀ i ∈ v.set, v.write (Elt F) f w Finset.univ i = g i := by
  intro i hi
  obtain ⟨x, -, rfl⟩ := Finset.mem_map.mp hi
  exact (View.write_emb_of_mem f w (Finset.mem_univ x)).trans (h x)

/-- The rows `[o 0, o 0 + sz)` of the send, receive and sum buffers, and of the result. -/
abbrev sM (o : Fin 2 → ℕ) (sz : ℕ) (hi : ∀ a, o a + (![sz, 1024] : Fin 2 → ℕ) a ≤ S4096x1024.size a) : Memref sig .tc .vmem ⟨2, ![sz, 1024]⟩ .bf16 :=
  (Memref.whole cc0_scratch1).slice (Rect.unit (s := S4096x1024) o ![sz, 1024] hi) (fun _ => rfl)
abbrev vM (o : Fin 2 → ℕ) (sz : ℕ) (hi : ∀ a, o a + (![sz, 1024] : Fin 2 → ℕ) a ≤ S4096x1024.size a) : Memref sig .tc .vmem ⟨2, ![sz, 1024]⟩ .bf16 :=
  (Memref.whole cc0_scratch2).slice (Rect.unit (s := S4096x1024) o ![sz, 1024] hi) (fun _ => rfl)
abbrev uM (o : Fin 2 → ℕ) (sz : ℕ) (hi : ∀ a, o a + (![sz, 1024] : Fin 2 → ℕ) a ≤ S4096x1024.size a) : Memref sig .tc .vmem ⟨2, ![sz, 1024]⟩ .bf16 :=
  (Memref.whole cc0_scratch3).slice (Rect.unit (s := S4096x1024) o ![sz, 1024] hi) (fun _ => rfl)
abbrev oM (o : Fin 2 → ℕ) (sz : ℕ) (hi : ∀ a, o a + (![sz, 1024] : Fin 2 → ℕ) a ≤ S8192x1024.size a) : Memref sig .tc .hbm ⟨2, ![sz, 1024]⟩ .bf16 :=
  (Memref.whole main_v1).slice (Rect.unit (s := S8192x1024) o ![sz, 1024] hi) (fun _ => rfl)

theorem sM_set (i : Fin 14) (hi) : (sM ![OFF i, 0] (SZ i) hi).view.set = chS i :=
  (View.set_slice_whole _ _).trans (unit_set _ _ _ (Nat.zero_add _).symm rfl _)
theorem vM_set (i : Fin 14) (hi) : (vM ![OFF i, 0] (SZ i) hi).view.set = chS i :=
  (View.set_slice_whole _ _).trans (unit_set _ _ _ (Nat.zero_add _).symm rfl _)
theorem uM_set (i : Fin 14) (hi) : (uM ![OFF i, 0] (SZ i) hi).view.set = chS i :=
  (View.set_slice_whole _ _).trans (unit_set _ _ _ (Nat.zero_add _).symm rfl _)
theorem oM_set (i : Fin 14) (h : ℕ) (o : Fin 2 → ℕ) (h0 : o 0 = h * 4096 + OFF i) (h1 : o 1 = 0) (hi) : (oM o (SZ i) hi).view.set = outS h i :=
  (View.set_slice_whole _ _).trans (unit_set _ _ _ h0 h1 _)

/-- Where an index of the sum buffer's rows goes in the result. -/
theorem outV_emb (c : Dev nD) (i : Fin 14) (o : Fin 2 → ℕ) (h0 : o 0 = my c * 4096 + OFF i) (h1 : o 1 = 0) (hi hi') (x : (⟨2, ![SZ i, 1024]⟩ : Shape).Idx) :
    outV m c ((oM o (SZ i) hi).view.emb x) = sumV m c ((uM ![OFF i, 0] (SZ i) hi').view.emb x) := by
  have hx0 : (x 0).val < SZ i := (x 0).isLt
  have hx1 : (x 1).val < 1024 := (x 1).isLt
  have e0 : (((oM o (SZ i) hi).view.emb x) 0).val = my c * 4096 + OFF i + (x 0).val := by
    show o 0 + 1 * (x 0).val = _; rw [h0, Nat.one_mul]
  have e1 : (((oM o (SZ i) hi).view.emb x) 1).val = (x 1).val := by
    show o 1 + 1 * (x 1).val = _; rw [h1, Nat.one_mul, Nat.zero_add]
  have hO := OFF_SZ i
  unfold outV
  rw [e0, e1, show (my c * 4096 + OFF i + (x 0).val) / 4096 = my c by omega, dv_self]
  congr 1
  funext a
  match a with
  | 0 => exact Fin.ext (show (my c * 4096 + OFF i + (x 0).val) % 4096 = OFF i + 1 * (x 0).val by omega)
  | 1 => exact Fin.ext (show (x 1).val % 1024 = 0 + 1 * (x 1).val by omega)

/-- What lands across the first axis, along the second, and in the device's own result. -/
theorem landed_x (c : Dev nD) (i : Fin 14) (hi hi') (fd : Buf (Elt F) (vL (pX c))) : ∀ y ∈ (vM ![OFF i, 0] (SZ i) hi').view.set,
    (vM ![OFF i, 0] (SZ i) hi').view.write (Elt F) fd ((sM ![OFF i, 0] (SZ i) hi).view.read (Elt F) (sendV m c)) Finset.univ y = recvV m (pX c) y :=
  write_eq (vM ![OFF i, 0] (SZ i) hi').view fd _ (recvV m (pX c)) fun x => by unfold recvV; rw [pX_pX]; rfl
theorem landed_y (c : Dev nD) (i : Fin 14) (o : Fin 2 → ℕ) (h0 : o 0 = my c * 4096 + OFF i) (h1 : o 1 = 0) (hi hi') (fd : Buf (Elt F) (oL (pY c))) :
    ∀ y ∈ (oM o (SZ i) hi').view.set,
    (oM o (SZ i) hi').view.write (Elt F) fd ((uM ![OFF i, 0] (SZ i) hi).view.read (Elt F) (sumV m c)) Finset.univ y = outV m (pY c) y :=
  write_eq (oM o (SZ i) hi').view fd _ (outV m (pY c)) fun x => by rw [outV_pY]; exact (outV_emb m c i o h0 h1 hi' hi x).symm
theorem landed_o (c : Dev nD) (i : Fin 14) (o : Fin 2 → ℕ) (h0 : o 0 = my c * 4096 + OFF i) (h1 : o 1 = 0) (hi hi') (fd : Buf (Elt F) (oL c)) :
    ∀ y ∈ (oM o (SZ i) hi').view.set,
    (oM o (SZ i) hi').view.write (Elt F) fd (ReadAs.same.apply ((uM ![OFF i, 0] (SZ i) hi).view.read (Elt F) (sumV m c))) Finset.univ y = outV m c y :=
  write_eq (oM o (SZ i) hi').view fd _ (outV m c) fun x => (outV_emb m c i o h0 h1 hi' hi x).symm

theorem payload_0 (c : Dev nD) (i : Fin 14) : (Rd m).payload (dCell c 0 i) 0 false = iprop(∃ f : Buf (Elt F) (sL c), (sL c) ↦[chS i]{fullShare} f) := payload_d m c 0 i false
theorem payload_1 (c : Dev nD) (i : Fin 14) : (Rd m).payload (dCell c 1 i) 0 false = ((vL c) ↦[chS i]{fullShare} recvV m c) := payload_d m c 1 i false
theorem payload_2 (c : Dev nD) (i : Fin 14) : (Rd m).payload (dCell c 2 i) 0 false = ((uL c) ↦[chS i]{qB} sumV m c) := payload_d m c 2 i false
theorem payload_3 (c : Dev nD) (i : Fin 14) : (Rd m).payload (dCell c 3 i) 0 false = ((oL c) ↦[outS (1 - my c) i]{fullShare} outV m c) := payload_d m c 3 i false

section Sends
variable (c : Dev nD) (b : ℕ) (ph : Fin 14 → ℕ) (sl : Fin 2 → Slot) (i : Fin 14) {α : Type} (p : PUnit.{1} → Pr F α)

/-- The copy of a chunk across the first axis. -/
theorem step_xsend (Q : α → sProp 𝕄) {sz off : ℕ} (hsz : SZ i = sz) (hoff : OFF i = off) (hp : ph i = 3) (d : Dev nD) (hd : d = pX c)
    {hi hi' : ∀ a, (![off, 0] : Fin 2 → ℕ) a + (![sz, 1024] : Fin 2 → ℕ) a ≤ S4096x1024.size a}
    (qs qr : DmaSem sig) (hqs : qs = dS 0 i) (hqr : qr = dS 1 i) {h1} {h2} {h3} {h4}
    (h : Gst m K c b (upd ph i 4) sl ⊢ run c (p ⟨⟩) Q) :
    Gst m K c b ph sl ⊢ run c (.op (.enqueueDma (sM ![off, 0] sz hi) (.remote (Dev.tc d) (vM ![off, 0] sz hi') (.dma qs) h1) (.dma qr) h2 h3 h4) p) Q := by
  subst hsz hoff hd hqs hqr
  refine adv m K c b ph sl i 3 4 hp (show _ ⊢ _ from ?_) h
  rw [St_3, St_4]; unfold tX at0 at1 sIs landing
  iintro ⟨⟨#HR, #HL⟩, ⟨%W, HO⟩, ⟨⟨⟨⟨Ht, Ht'⟩, Hat⟩, Hlat, Hu, Hs⟩, Hv, Ho⟩, Hk⟩
  unfold vAny
  icases Hv with ⟨%fd, Hv⟩
  ihave Hc := (records_at m K (c, some (0, i))) $$ HR
  icases Hc with ⟨#HI, #Hre⟩
  ihave Hc := (records_at m K (pX c, some (1, i))) $$ HR
  icases Hc with ⟨#HI', #Hre'⟩
  iapply (Rounds.wp_send_pointsTo 𝒱₀ ER (Rd m) (c : Thread nD τ) none (κ₁ := K (c, some (0, i))) (κ₂ := K (pX c, some (1, i)))
      (src := sM ![OFF i, 0] (SZ i) hi) (dst := vM ![OFF i, 0] (SZ i) hi') (c' := (pX c : Thread nD τ)) (q := fullShare) (fs := sendV m c) (fd := fd)
      (r₁ := 0) (r₂ := 0) (d₁ := false) (d₂ := false)
      (by rw [duties_d]; exact Finset.mem_singleton_self _) (by rw [duties_d]; exact Finset.mem_singleton_self _)
      () () (NN i) rfl (amount_d m c 0 i false) (amount_d m (pX c) 1 i false) (O₀ := ow c b ph) (ow c b (upd ph i 4)) (ow_x c b ph i 4 (by omega) le_rfl (by decide)) (W := W)
      (by rw [payload_0, sM_set]; iintro H; iexists (sendV m c); iexact H)
      (by rw [payload_1, pointsTo_congr (landed_x m c i hi hi' fd), vM_set])) $$ [HO Ht Ht' Hs Hv]
  · isplitr; · iexact HI
    isplitr; · iexact HI'
    isplitl [Hs]; · rw [sM_set]; iexact Hs
    isplitl [Hv]; · rw [vM_set]; iexact Hv
    isplitl [HO]; · iexact HO
    isplitl [Ht]; · iexact Ht
    isplitr; · iexact Hre
    isplitl [Ht']; · iexact Ht'
    iexact Hre'
  iintro ⟨Hcr, HO⟩
  ispecialize Hk $$ [HO]
  · iexists W; iexact HO
  iapply Hk
  isplitl [Hat Hcr]
  · isplitl [Hat]; · iexact Hat
    iexact Hcr
  isplitl [Hlat]; · iexact Hlat
  isplitl [Hu]; · iexact Hu
  iexact Ho

/-- The copy of a chunk of the sums along the second axis. -/
theorem step_ysend (Q : α → sProp 𝕄) {sz off : ℕ} (hsz : SZ i = sz) (hoff : OFF i = off) (hp : ph i = 7) (d : Dev nD) (hd : d = pY c)
    {hi : ∀ a, (![off, 0] : Fin 2 → ℕ) a + (![sz, 1024] : Fin 2 → ℕ) a ≤ S4096x1024.size a}
    {o : Fin 2 → ℕ} (h0 : o 0 = my c * 4096 + off) (h1 : o 1 = 0) {hi' : ∀ a, o a + (![sz, 1024] : Fin 2 → ℕ) a ≤ S8192x1024.size a}
    (qs qr : DmaSem sig) (hqs : qs = dS 2 i) (hqr : qr = dS 3 i) {h2} {h3} {h4} {h5}
    (h : Gst m K c b (upd ph i 8) sl ⊢ run c (p ⟨⟩) Q) :
    Gst m K c b ph sl ⊢ run c (.op (.enqueueDma (uM ![off, 0] sz hi) (.remote (Dev.tc d) (oM o sz hi') (.dma qs) h2) (.dma qr) h3 h4 h5) p) Q := by
  subst hsz hoff hd hqs hqr
  refine adv m K c b ph sl i 7 8 hp (show _ ⊢ _ from ?_) h
  rw [St_7, St_8]; unfold tY at0 at1 uSum oAny
  iintro ⟨⟨#HR, #HL⟩, ⟨%W, HO⟩, ⟨Hx, Hv, ⟨⟨Ht, Ht'⟩, Hat, H3⟩, Hf, Hu, ⟨%fd, Ho⟩⟩, Hk⟩
  ihave Hc := (records_at m K (c, some (2, i))) $$ HR
  icases Hc with ⟨#HI, #Hre⟩
  ihave Hc := (records_at m K (pY c, some (3, i))) $$ HR
  icases Hc with ⟨#HI', #Hre'⟩
  iapply (Rounds.wp_send_pointsTo 𝒱₀ ER (Rd m) (c : Thread nD τ) none (κ₁ := K (c, some (2, i))) (κ₂ := K (pY c, some (3, i)))
      (src := uM ![OFF i, 0] (SZ i) hi) (dst := oM o (SZ i) hi') (c' := (pY c : Thread nD τ)) (q := qB) (fs := sumV m c) (fd := fd)
      (r₁ := 0) (r₂ := 0) (d₁ := false) (d₂ := false)
      (by rw [duties_d]; exact Finset.mem_singleton_self _) (by rw [duties_d]; exact Finset.mem_singleton_self _)
      () () (NN i) rfl (amount_d m c 2 i false) (amount_d m (pY c) 3 i false) (O₀ := ow c b ph) (ow c b (upd ph i 8)) (ow_y c b ph i 8 (by omega) (by omega) le_rfl) (W := W)
      (by rw [payload_2, uM_set])
      (by rw [payload_3, pointsTo_congr (landed_y m c i o h0 h1 hi hi' fd), oM_set i (my c) o h0 h1, my_pY, show 1 - (1 - my c) = my c by have := my_lt c; omega])) $$ [HO Ht Ht' Hu Ho]
  · isplitr; · iexact HI
    isplitr; · iexact HI'
    isplitl [Hu]; · rw [uM_set]; iexact Hu
    isplitl [Ho]; · rw [oM_set i (my c) o h0 h1]; iexact Ho
    isplitl [HO]; · iexact HO
    isplitl [Ht]; · iexact Ht
    isplitr; · iexact Hre
    isplitl [Ht']; · iexact Ht'
    iexact Hre'
  iintro ⟨Hcr, HO⟩
  ispecialize Hk $$ [HO]
  · iexists W; iexact HO
  iapply Hk
  isplitl [Hx]; · iexact Hx
  isplitl [Hv]; · iexact Hv
  isplitl [Hat Hcr H3]
  · isplitl [Hat Hcr]
    · isplitl [Hat]; · iexact Hat
      iexact Hcr
    iexact H3
  iexact Hf

/-- The copy of a chunk of the sums into the device's own result. -/
theorem step_out (Q : α → sProp 𝕄) {sz off : ℕ} (hsz : SZ i = sz) (hoff : OFF i = off) (hp : ph i = 6)
    {hi : ∀ a, (![off, 0] : Fin 2 → ℕ) a + (![sz, 1024] : Fin 2 → ℕ) a ≤ S4096x1024.size a}
    {o : Fin 2 → ℕ} (h0 : o 0 = my c * 4096 + off) (h1 : o 1 = 0) {hi' : ∀ a, o a + (![sz, 1024] : Fin 2 → ℕ) a ≤ S8192x1024.size a}
    (q : DmaSem sig) (hq : q = oS i) {h3} {h4} {h5}
    (h : Gst m K c b (upd ph i 7) sl ⊢ run c (p ⟨⟩) Q) :
    Gst m K c b ph sl ⊢ run c (.op (.enqueueDma (uM ![off, 0] sz hi) (.here (oM o sz hi')) (.dma q) h3 h4 h5) p) Q := by
  subst hsz hoff hq
  refine adv m K c b ph sl i 6 7 hp (show _ ⊢ _ from ?_) h
  rw [St_6, St_7, ow_same c b ph i 7 (by omega) (by omega)]; unfold uSum
  iintro ⟨HR, HO, ⟨Hx, Hv, Hy, ⟨Hz, Ho⟩, Hu, Hl⟩, Hk⟩
  ihave Hu := (pointsTo_share (PosShare.mem_left_op_right fullShare)).1 $$ Hu
  icases Hu with ⟨HuA, HuB⟩
  unfold zo oAny
  icases Ho with ⟨%fd, Ho⟩
  iapply (Transfers.wp_dmaLocal countersEmb 𝒱₀ (c : Thread nD τ) none (src := uM ![OFF i, 0] (SZ i) hi) (dst := oM o (SZ i) hi') (q := qA) (fs := sumV m c)
      (Sd := outS (my c) i) (fd := fd) () (NN i) rfl (NN_pos i) (by rw [oM_set i (my c) o h0 h1])) $$ [HuA Ho Hz]
  · isplitl [HuA]; · rw [uM_set]; iexact HuA
    isplitl [Ho]; · iexact Ho
    iexact Hz
  iintro Hf
  ispecialize Hk $$ HO
  iapply Hk
  isplitl [Hx]; · iexact Hx
  isplitl [Hv]; · iexact Hv
  isplitl [Hy]; · iexact Hy
  isplitl [Hf]
  · unfold fo
    rw [← uM_set i hi, ← oM_set i (my c) o h0 h1 hi', pointsTo_congr (ℓ := (oM o (SZ i) hi').view.loc (c : Thread nD τ)) (landed_o m c i o h0 h1 hi hi' fd)]
    iexact Hf
  isplitl [HuB]; · iexact HuB
  iexact Hl

end Sends

end Cert.KernelIdealProof
-- ==== Proof.LocalsIdeal.lean ====
/-
# The operations inside one device: the staging copies, the stores and the sums
-/
module

public import proofs.«01_k».proof.Proof.MovesIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The sum of a chunk -/

/-- Loads and stores at rows of the send, receive and sum buffers. -/
abbrev cR (off sz : ℕ) (hi : ∀ a, (![off, 0] : Fin 2 → ℕ) a + (![sz, 1024] : Fin 2 → ℕ) a ≤ S4096x1024.size a) : Rect S4096x1024 :=
  Rect.unit (s := S4096x1024) ![off, 0] ![sz, 1024] hi

theorem sA_set (i : Fin 14) (hi) : ((Memref.whole cc0_scratch1 : Memref sig .tc .vmem S4096x1024 .bf16).access (cR (OFF i) (SZ i) hi)).set = chS i := sM_set i hi
theorem vA_set (i : Fin 14) (hi) : ((Memref.whole cc0_scratch2 : Memref sig .tc .vmem S4096x1024 .bf16).access (cR (OFF i) (SZ i) hi)).set = chS i := vM_set i hi
theorem uA_set (i : Fin 14) (hi) : ((Memref.whole cc0_scratch3 : Memref sig .tc .vmem S4096x1024 .bf16).access (cR (OFF i) (SZ i) hi)).set = chS i := uM_set i hi

theorem summed (c : Dev nD) (i : Fin 14) (hi) (f : Buf (Elt F) (uL c))
    (P : Vec F ⟨2, ![SZ i, 1024]⟩ .bf16 → Vec F ⟨2, ![SZ i, 1024]⟩ .bf16 → Vec F ⟨2, ![SZ i, 1024]⟩ .bf16) (hP : ∀ v w j, P v w j = add (v j) (w j)) :
    ∀ y ∈ ((Memref.whole cc0_scratch3 : Memref sig .tc .vmem S4096x1024 .bf16).access (cR (OFF i) (SZ i) hi)).set,
      ((Memref.whole cc0_scratch3 : Memref sig .tc .vmem S4096x1024 .bf16).access (cR (OFF i) (SZ i) hi)).write (Elt F) f
        (P (((Memref.whole cc0_scratch3 : Memref sig .tc .vmem S4096x1024 .bf16).access (cR (OFF i) (SZ i) hi)).read (Elt F) (keepV m c))
          (((Memref.whole cc0_scratch2 : Memref sig .tc .vmem S4096x1024 .bf16).access (cR (OFF i) (SZ i) hi)).read (Elt F) (recvV m c))) Finset.univ y = sumV m c y :=
  write_eq ((Memref.whole cc0_scratch3 : Memref sig .tc .vmem S4096x1024 .bf16).access (cR (OFF i) (SZ i) hi)) f _ (sumV m c) fun x => hP _ _ x

/-- A chunk received is added to the one kept. -/
theorem step_add (c : Dev nD) (b : ℕ) (ph : Fin 14 → ℕ) (sl : Fin 2 → Slot) (i : Fin 14) {α : Type} (p : PUnit.{1} → Pr F α) (Q : α → sProp 𝕄)
    {sz off : ℕ} (hsz : SZ i = sz) (hoff : OFF i = off) (hp : ph i = 5)
    {hi1 hi2 hi3 hi4 : ∀ a, (![off, 0] : Fin 2 → ℕ) a + (![sz, 1024] : Fin 2 → ℕ) a ≤ S4096x1024.size a}
    (P : Vec F ⟨2, ![sz, 1024]⟩ .bf16 → Vec F ⟨2, ![sz, 1024]⟩ .bf16 → Vec F ⟨2, ![sz, 1024]⟩ .bf16) (hP : ∀ v w j, P v w j = add (v j) (w j))
    {h1} {h2} {h3} {h4} {h5}
    (h : Gst m K c b (upd ph i 6) sl ⊢ run c (p ⟨⟩) Q) :
    Gst m K c b ph sl ⊢ run c (.op (.load (Memref.whole cc0_scratch3) (cR off sz hi1).toLoadRect h1) fun v =>
      .op (.load (Memref.whole cc0_scratch2) (cR off sz hi2).toLoadRect h2) fun w =>
      .op (.load (Memref.whole cc0_scratch3) (cR off sz hi3).toLoadRect h3) fun _ =>
      .op (.store (Memref.whole cc0_scratch3) (cR off sz hi4) (P v w) Finset.univ h4 h5) p) Q := by
  subst hsz hoff
  refine adv m K c b ph sl i 5 6 hp (show _ ⊢ _ from ?_) h
  rw [St_5, St_6, ow_same c b ph i 6 (by omega) (by omega)]; unfold uKeep uSum vIs
  iintro ⟨HR, HO, ⟨Hx, ⟨Hz, Hv⟩, Hy, Hzo, Hu, Hl⟩, Hk⟩
  iapply (wp_load_rect 𝒱₀ (c : Thread nD τ) none Set.univ (m := Memref.whole cc0_scratch3) (r := cR (OFF i) (SZ i) hi1) (by rw [uA_set])) $$ Hu; iintro Hu
  iapply (wp_load_rect 𝒱₀ (c : Thread nD τ) none Set.univ (m := Memref.whole cc0_scratch2) (r := cR (OFF i) (SZ i) hi2) (by rw [vA_set])) $$ Hv; iintro Hv
  iapply (wp_load_rect 𝒱₀ (c : Thread nD τ) none Set.univ (m := Memref.whole cc0_scratch3) (r := cR (OFF i) (SZ i) hi3) (by rw [uA_set])) $$ Hu; iintro Hu
  iapply (wp_store 𝒱₀ (c : Thread nD τ) none Set.univ (m := Memref.whole cc0_scratch3) (r := cR (OFF i) (SZ i) hi4) (Mk := Finset.univ)
    (by rw [View.setOn_univ, uA_set])) $$ Hu; iintro Hu
  ispecialize Hk $$ HO
  iapply Hk
  isplitl [Hx]; · iexact Hx
  isplitl [Hz Hv]
  · isplitl [Hz]; · iexact Hz
    iexact Hv
  isplitl [Hy]; · iexact Hy
  isplitl [Hzo]; · iexact Hzo
  isplitl [Hu]
  · ihave Hu := (Entails.of_eq (pointsTo_congr (ℓ := uL c) (I := chS i) (q := fullShare)
      (fun y hy => summed m c i hi4 (keepV m c) P hP y ((uA_set i hi4).symm ▸ hy)))) $$ Hu
    iexact Hu
  iexact Hl

/-! ## The staging slots -/

theorem lv_i (c : Dev nD) (s : Fin 2) : lv ((c : Thread nD τ), .dma (iS s)) () = 0 := by
  show (if isD (iS s) then _ else 0) = 0
  rw [if_neg]
  intro h
  have : 16 ≤ s.val := h
  omega
theorem lv_o (c : Dev nD) (i : Fin 14) : lv ((c : Thread nD τ), .dma (oS i)) () = 0 := by
  show (if isD (oS i) then _ else 0) = 0
  rw [if_neg]
  intro h
  have : 16 ≤ 2 + i.val := h
  omega

/-- Rows of the argument, and of a slot, with the unit axis dropped. -/
abbrev xM (o : Fin 3 → ℕ) (sz : ℕ) (hi : ∀ a, o a + (![1, sz, 2048] : Fin 3 → ℕ) a ≤ S1x8192x2048.size a)
    (hq : (⟨3, ![1, sz, 2048]⟩ : Shape).Squeezes ⟨2, ![sz, 2048]⟩) : Memref sig .tc .hbm ⟨2, ![sz, 2048]⟩ .f32 :=
  ((Memref.whole main_arg0).slice (Rect.unit (s := S1x8192x2048) o ![1, sz, 2048] hi) (fun _ => rfl)).squeeze ⟨2, ![sz, 2048]⟩ hq
abbrev fM (s sz : ℕ) (hi : ∀ a, (![s, 0, 0] : Fin 3 → ℕ) a + (![1, sz, 2048] : Fin 3 → ℕ) a ≤ S2x512x2048.size a)
    (hq : (⟨3, ![1, sz, 2048]⟩ : Shape).Squeezes ⟨2, ![sz, 2048]⟩) : Memref sig .tc .vmem ⟨2, ![sz, 2048]⟩ .f32 :=
  ((Memref.whole cc0_scratch0).slice (Rect.unit (s := S2x512x2048) ![s, 0, 0] ![1, sz, 2048] hi) (fun _ => rfl)).squeeze ⟨2, ![sz, 2048]⟩ hq

theorem drop3 {sz w : ℕ} (h : (⟨2, ![sz, w]⟩ : Shape).numel = (⟨3, ![1, sz, w]⟩ : Shape).numel) (x : (⟨2, ![sz, w]⟩ : Shape).Idx) :
    Shape.reshapeEquiv h x = (Fin.cons ⟨0, Nat.one_pos⟩ x : (⟨3, ![1, sz, w]⟩ : Shape).Idx) :=
  Shape.reshapeEquiv_cons_one (d := ![sz, w]) h x

theorem xM_emb (o : Fin 3 → ℕ) (sz : ℕ) (hi hq) (x : (⟨2, ![sz, 2048]⟩ : Shape).Idx) (h0 : o 0 = 0) (h2 : o 2 = 0) :
    (xM o sz hi hq).view.emb x = ix3 (o 1 + (x 0).val) (x 1).val := by
  show (Rect.unit (s := S1x8192x2048) o ![1, sz, 2048] hi).emb (Shape.reshapeEquiv _ x) = _
  rw [drop3]
  have hb : o 1 + sz ≤ 8192 := hi 1
  have hx0 : (x 0).val < sz := (x 0).isLt
  have hx1 : (x 1).val < 2048 := (x 1).isLt
  funext a
  match a with
  | 0 => exact Fin.ext (show o 0 + 1 * 0 = 0 by omega)
  | 1 => exact Fin.ext (show o 1 + 1 * (x 0).val = (o 1 + (x 0).val) % 8192 by omega)
  | 2 => exact Fin.ext (show o 2 + 1 * (x 1).val = (x 1).val % 2048 by omega)

theorem fM_emb (s sz : ℕ) (hi hq) (x : (⟨2, ![sz, 2048]⟩ : Shape).Idx) :
    (((fM s sz hi hq).view.emb x) 0).val = s ∧ (((fM s sz hi hq).view.emb x) 1).val = (x 0).val ∧ (((fM s sz hi hq).view.emb x) 2).val = (x 1).val := by
  have e : (fM s sz hi hq).view.emb x = (Rect.unit (s := S2x512x2048) ![s, 0, 0] ![1, sz, 2048] hi).emb (Fin.cons ⟨0, Nat.one_pos⟩ x) := by
    rw [← drop3]; rfl
  rw [e]
  refine ⟨?_, ?_, ?_⟩
  · show s + 1 * 0 = s; omega
  · show 0 + 1 * (x 0).val = _; omega
  · show 0 + 1 * (x 1).val = _; omega

theorem fM_set (s : Fin 2) (sz : ℕ) (hi hq) : (fM s.val sz hi hq).view.set ⊆ slotS s := by
  intro y hy
  obtain ⟨x, -, rfl⟩ := Finset.mem_map.mp hy
  exact mem_slotS.mpr (fM_emb s.val sz hi hq x).1

/-- A landing of chunk `i` leaves the slot holding it. -/
theorem holds_land (c : Dev nD) (s : Fin 2) (i : Fin 14) (o : Fin 3 → ℕ) (h0 : o 0 = 0) (h1 : o 1 = my c * 4096 + OFF i) (h2 : o 2 = 0) (hi hq hi' hq')
    (f : Buf (Elt F) (fL c)) :
    holds m c s i ((fM s.val (SZ i) hi' hq').view.write (Elt F) f (ReadAs.same.apply ((xM o (SZ i) hi hq).view.read (Elt F) (X m c))) Finset.univ) := by
  intro y hy0 hy1
  have hy2 : (y 2).val < 2048 := (y 2).isLt
  let x : (⟨2, ![SZ i, 2048]⟩ : Shape).Idx := fun | 0 => ⟨(y 1).val, hy1⟩ | 1 => ⟨(y 2).val, hy2⟩
  have hx := fM_emb s.val (SZ i) hi' hq' x
  have e : y = (fM s.val (SZ i) hi' hq').view.emb x := by
    funext a
    match a with
    | 0 => exact Fin.ext (hy0.trans hx.1.symm)
    | 1 => exact Fin.ext hx.2.1.symm
    | 2 => exact Fin.ext hx.2.2.symm
  conv_lhs => rw [e]
  refine (View.write_emb_of_mem _ _ (Finset.mem_univ x)).trans ?_
  show X m c ((xM o (SZ i) hi hq).view.emb x) = _
  rw [xM_emb o (SZ i) hi hq x h0 h2, h1]; rfl

section Slots
variable (c : Dev nD) (b : ℕ) (ph : Fin 14 → ℕ) (sl : Fin 2 → Slot) (i : Fin 14) (s : Fin 2) {α : Type} (p : PUnit.{1} → Pr F α)

/-- A copy of a chunk into an unused slot starts. -/
theorem step_start (Q : α → sProp 𝕄) {sz off t : ℕ} (hsz : SZ i = sz) (hoff : OFF i = off) (ht : s.val = t) (hs : sl s = .free)
    {o : Fin 3 → ℕ} (h0 : o 0 = 0) (h1 : o 1 = my c * 4096 + off) (h2 : o 2 = 0) {hi} {hq} {hi'} {hq'} (q : DmaSem sig) (hqs : q = iS s) {h3} {h4} {h5}
    (h : Gst m K c b ph (Function.update sl s (.busy i)) ⊢ run c (p ⟨⟩) Q) :
    Gst m K c b ph sl ⊢ run c (.op (.enqueueDma (xM o sz hi hq) (.here (fM t sz hi' hq')) (.dma q) h3 h4 h5) p) Q := by
  subst hsz hoff ht hqs
  refine advS m K c b ph sl s .free (.busy i) hs (show _ ⊢ _ from ?_) h
  rw [SlotSt_free, SlotSt_busy]; unfold zi
  iintro ⟨HR, HO, ⟨Hz, ⟨%f, Hf⟩, Hx⟩, Hk⟩
  ihave Hx := (pointsTo_split_subset (Finset.subset_univ (xM o (SZ i) hi hq).view.set)).1 $$ Hx
  icases Hx with ⟨Hx, Hx'⟩
  iapply (Transfers.wp_dmaLocal countersEmb 𝒱₀ (c : Thread nD τ) none (src := xM o (SZ i) hi hq) (dst := fM s.val (SZ i) hi' hq') (q := qS s) (fs := X m c)
      (Sd := slotS s) (fd := f) () (NI i) rfl (NI_pos i) (fM_set s (SZ i) hi' hq')) $$ [Hx Hf Hz]
  · isplitl [Hx]; · iexact Hx
    isplitl [Hf]; · iexact Hf
    iexact Hz
  iintro Hfl
  ispecialize Hk $$ HO
  iapply Hk
  iexists _, (xM o (SZ i) hi hq).view.set
  isplitr
  · ipureintro; exact holds_land m c s i o h0 h1 h2 hi hq hi' hq' f
  isplitl [Hfl]; · iexact Hfl
  iexact Hx'

/-- The copy of a chunk into its slot is done. -/
theorem step_full (Q : α → sProp 𝕄) (hs : sl s = .busy i) {sp sp' : Space} {s' s'' : Shape} {e e' : EltTy} {κ' : Kind} (q : DmaSem sig) (hq : q = iS s)
    (src : Memref sig .tc sp' s'' e') (dst : Memref sig κ' sp s' e) (hN : dst.view.dmaCredit = NI i) {hsrc : src.view.WordExact} {hdst : dst.view.WordExact}
    (h : Gst m K c b ph (Function.update sl s (.full i)) ⊢ run c (p ⟨⟩) Q) :
    Gst m K c b ph sl ⊢ run c (.op (.waitDma2 q src dst hsrc hdst) p) Q := by
  subst hq
  refine advS m K c b ph sl s (.busy i) (.full i) hs (show _ ⊢ _ from ?_) h
  rw [SlotSt_full, SlotSt_busy]; unfold zi
  iintro ⟨⟨#HR, #HL⟩, ⟨%W, HO⟩, ⟨%f, %T, %hf, Hfl, Hx'⟩, Hk⟩
  iapply (Transfers.wp_waitLocalO countersEmb 𝒱₀ (c : Thread nD τ) none () hN) $$ [HO Hfl]
  · isplitl [Hfl]; · iexact Hfl
    isplitl [HO]; · iexact HO
    iapply (mayWait c (.dma (iS s)) b ph 0 (lv_i c s).le (.inl (by decide)) (.inl (by decide)) (.inl (by decide))); iexact HL
  iintro ⟨⟨Hf, Hx⟩, Hz, HO⟩
  ispecialize Hk $$ [HO]
  · iexists _; iexact HO
  iapply Hk
  isplitl [Hz]; · iexact Hz
  isplitl [Hf]
  · iexists f
    isplitr
    · ipureintro; exact hf
    iexact Hf
  iapply (pointsTo_split_subset (Finset.subset_univ T)).2
  isplitl [Hx]; · iexact Hx
  iexact Hx'

end Slots

end Cert.KernelIdealProof
-- ==== Proof.StoreIdeal.lean ====
/-
# The stores of a chunk under the two tests

Each device stores the columns that it keeps and the columns that it sends. Which columns are which depends on its first
coordinate, so the text tests that coordinate twice, and one of the two tests holds.
-/
module

public import proofs.«01_k».proof.Proof.LocalsIdeal
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Rounding a chunk into the kept and the sent rows -/

theorem cvt_pay {sz : ℕ} (v : Vec F ⟨3, ![1, sz, 1024]⟩ .f32) (h1) (h2) (j : (⟨2, ![sz, 1024]⟩ : Shape).Idx) :
    (shapeCast ⟨2, ![sz, 1024]⟩ (truncf (φ := .f32) .bf16 (shapeCast ⟨2, ![sz, 1024]⟩ v h1) bitsLt_bf16_f32) h2 : Vec F ⟨2, ![sz, 1024]⟩ .bf16) j
      = cvt (v (Fin.cons ⟨0, Nat.one_pos⟩ j)) := by
  rw [shapeCast_self]
  show cvt (shapeCast ⟨2, ![sz, 1024]⟩ v h1 j) = _
  rw [shapeCast_dropUnit_apply ![sz, 1024] v h1 j]

theorem add_pay {sz : ℕ} (v w : Vec F ⟨2, ![sz, 1024]⟩ .bf16) (h) (j : (⟨2, ![sz, 1024]⟩ : Shape).Idx) :
    (shapeCast ⟨2, ![sz, 1024]⟩ (addf (φ := .bf16) v w) h : Vec F ⟨2, ![sz, 1024]⟩ .bf16) j = add (v j) (w j) := by
  rw [shapeCast_self]; rfl

/-- Loads of half the columns of a staged chunk. -/
abbrev fR (t ca sz : ℕ) (hi : ∀ a, (![t, 0, ca] : Fin 3 → ℕ) a + (![1, sz, 1024] : Fin 3 → ℕ) a ≤ S2x512x2048.size a) : Rect S2x512x2048 :=
  Rect.unit (s := S2x512x2048) ![t, 0, ca] ![1, sz, 1024] hi

theorem fR_emb (t ca sz : ℕ) (hi) (j : (⟨2, ![sz, 1024]⟩ : Shape).Idx) :
    (((fR t ca sz hi).emb (Fin.cons ⟨0, Nat.one_pos⟩ j)) 0).val = t ∧ (((fR t ca sz hi).emb (Fin.cons ⟨0, Nat.one_pos⟩ j)) 1).val = (j 0).val
      ∧ (((fR t ca sz hi).emb (Fin.cons ⟨0, Nat.one_pos⟩ j)) 2).val = ca + (j 1).val := by
  refine ⟨?_, ?_, ?_⟩
  · show t + 1 * 0 = t; omega
  · show 0 + 1 * (j 0).val = _; omega
  · show ca + 1 * (j 1).val = _; omega

theorem fR_set (s : Fin 2) (ca sz : ℕ) (hi) : ((Memref.whole cc0_scratch0 : Memref sig .tc .vmem S2x512x2048 .f32).access (fR s.val ca sz hi)).set ⊆ slotS s := by
  intro y hy
  obtain ⟨x, -, rfl⟩ := Finset.mem_map.mp hy
  have hx : (x 0).val < 1 := (x 0).isLt
  exact mem_slotS.mpr (show s.val + 1 * (x 0).val = s.val by omega)

/-- A staged half of a chunk, rounded, is the chunk's rows of that half of the columns. -/
theorem rounded (c : Dev nD) (i : Fin 14) (s : Fin 2) (a : ℕ) (hi hi') (ha : a < 2) (f : Buf (Elt F) (fL c)) (hf : holds m c s i f)
    (P : Vec F ⟨3, ![1, SZ i, 1024]⟩ .f32 → Vec F ⟨2, ![SZ i, 1024]⟩ .bf16) (hP : ∀ v j, P v j = cvt (v (Fin.cons ⟨0, Nat.one_pos⟩ j)))
    (x : (⟨2, ![SZ i, 1024]⟩ : Shape).Idx) :
    P (((Memref.whole cc0_scratch0 : Memref sig .tc .vmem S2x512x2048 .f32).access (fR s.val (a * 1024) (SZ i) hi)).read (Elt F) f) x
      = part m c a ((cR (OFF i) (SZ i) hi').emb x) := by
  rw [hP]
  have e := fR_emb s.val (a * 1024) (SZ i) hi x
  show cvt (f ((fR s.val (a * 1024) (SZ i) hi).emb (Fin.cons ⟨0, Nat.one_pos⟩ x))) = cvt (X m c _)
  have hx : (x 0).val < SZ i := (x 0).isLt
  rw [hf _ e.1 (by rw [e.2.1]; exact hx), e.2.1, e.2.2]
  rw [show (((cR (OFF i) (SZ i) hi').emb x) 0).val = OFF i + (x 0).val from (show OFF i + 1 * (x 0).val = _ by omega),
    show (((cR (OFF i) (SZ i) hi').emb x) 1).val = (x 1).val from (show 0 + 1 * (x 1).val = _ by omega), Nat.add_assoc]

theorem rounded_u (c : Dev nD) (i : Fin 14) (hi) {V : S4096x1024.Idx → Elt F .bf16} (w : Vec F ⟨2, ![SZ i, 1024]⟩ .bf16)
    (h : ∀ x, w x = V ((cR (OFF i) (SZ i) hi).emb x)) (f : Buf (Elt F) (uL c)) : ∀ y ∈ chS i,
      ((Memref.whole cc0_scratch3 : Memref sig .tc .vmem S4096x1024 .bf16).access (cR (OFF i) (SZ i) hi)).write (Elt F) f w Finset.univ y = V y :=
  fun y hy => write_eq ((Memref.whole cc0_scratch3 : Memref sig .tc .vmem S4096x1024 .bf16).access (cR (OFF i) (SZ i) hi)) f w V h y ((uA_set i hi).symm ▸ hy)
theorem rounded_s (c : Dev nD) (i : Fin 14) (hi) {V : S4096x1024.Idx → Elt F .bf16} (w : Vec F ⟨2, ![SZ i, 1024]⟩ .bf16)
    (h : ∀ x, w x = V ((cR (OFF i) (SZ i) hi).emb x)) (f : Buf (Elt F) (sL c)) : ∀ y ∈ chS i,
      ((Memref.whole cc0_scratch1 : Memref sig .tc .vmem S4096x1024 .bf16).access (cR (OFF i) (SZ i) hi)).write (Elt F) f w Finset.univ y = V y :=
  fun y hy => write_eq ((Memref.whole cc0_scratch1 : Memref sig .tc .vmem S4096x1024 .bf16).access (cR (OFF i) (SZ i) hi)) f w V h y ((sA_set i hi).symm ▸ hy)

theorem ow_store (c : Dev nD) (b : ℕ) (ph : Fin 14 → ℕ) (i : Fin 14) (h : ph i = 0 ∨ ph i = 2) : ow c b (upd ph i (ph i + 1)) = ow c b ph :=
  ow_same c b ph i _ (by omega) (by omega)

/-- A full slot and a chunk not stored yet, taken out of the state together. -/
theorem adv2 (c : Dev nD) (b : ℕ) (ph : Fin 14 → ℕ) (sl : Fin 2 → Slot) (i : Fin 14) (s : Fin 2) (hn : ph i = 0 ∨ ph i = 2) (hs : sl s = .full i) {P P' : sProp 𝕄}
    (h : iprop((uAny c i ∗ sAny c i) ∗ SlotSt m c s (.full i) ∗ (uKeep m c i -∗ sIs m c i -∗ SlotSt m c s .free -∗ P)) ⊢ P')
    (hP : Gst m K c b (upd ph i (ph i + 1)) (Function.update sl s .free) ⊢ P) : Gst m K c b ph sl ⊢ P' := by
  refine (show _ ⊢ _ from ?_).trans h
  unfold Gst at hP ⊢
  rw [ow_store c b ph i hn] at hP
  rw [focus (SlotSt m c) sl s, hs, focus (St m c) ph i]
  have e0 : St m c i (ph i) ⊢ iprop((uAny c i ∗ sAny c i) ∗ (uKeep m c i -∗ sIs m c i -∗ St m c i (ph i + 1))) := by
    refine (show _ ⊢ _ from ?_)
    rcases hn with hn | hn <;> rw [hn]
    · rw [St_0, St_1]
      iintro ⟨Ht, Hl, Hu, Hs⟩
      isplitl [Hu Hs]
      · isplitl [Hu]; · iexact Hu
        iexact Hs
      iintro Hu Hs
      isplitl [Ht]; · iexact Ht
      isplitl [Hl]; · iexact Hl
      isplitl [Hu]; · iexact Hu
      iexact Hs
    · rw [St_2, St_3]
      iintro ⟨⟨Ht, Hl, Hu, Hs⟩, Hd⟩
      isplitl [Hu Hs]
      · isplitl [Hu]; · iexact Hu
        iexact Hs
      iintro Hu Hs
      isplitr [Hd]
      · isplitl [Ht]; · iexact Ht
        isplitl [Hl]; · iexact Hl
        isplitl [Hu]; · iexact Hu
        iexact Hs
      iexact Hd
  iintro ⟨#HR, HO, HB, ⟨Hi, Hr⟩, ⟨Hj, Hq⟩⟩
  ihave Hi := e0 $$ Hi
  icases Hi with ⟨Hus, Hi⟩
  isplitl [Hus]; · iexact Hus
  isplitl [Hj]; · iexact Hj
  iintro Hu Hs Hj
  iapply hP
  isplitr; · iexact HR
  isplitl [HO]; · iexact HO
  isplitl [HB]; · iexact HB
  isplitl [Hi Hr Hu Hs]
  · rw [← refocus (St m c) ph i (ph i + 1)]
    isplitl [Hi Hu Hs]
    · ispecialize Hi $$ Hu
      iapply Hi; iexact Hs
    iexact Hr
  rw [← refocus (SlotSt m c) sl s .free]
  isplitl [Hj]; · iexact Hj
  iexact Hq

/-- The staged chunk is rounded: one half of its columns into the kept rows, the other into the rows to send. -/
theorem step_store (c : Dev nD) (b : ℕ) (ph : Fin 14 → ℕ) (sl : Fin 2 → Slot) (i : Fin 14) (s : Fin 2) {α : Type} (p : PUnit.{1} → Pr F α) (Q : α → sProp 𝕄)
    {sz off t ca cb : ℕ} (hsz : SZ i = sz) (hoff : OFF i = off) (ht : s.val = t) (hca : mx c * 1024 = ca) (hcb : (1 - mx c) * 1024 = cb)
    (hp : ph i = 0 ∨ ph i = 2) (hs : sl s = .full i)
    {hi1 hi2} {hi3 hi4 hi5 hi6 : ∀ a, (![off, 0] : Fin 2 → ℕ) a + (![sz, 1024] : Fin 2 → ℕ) a ≤ S4096x1024.size a}
    (P1 P2 : Vec F ⟨3, ![1, sz, 1024]⟩ .f32 → Vec F ⟨2, ![sz, 1024]⟩ .bf16)
    (hP1 : ∀ v j, P1 v j = cvt (v (Fin.cons ⟨0, Nat.one_pos⟩ j))) (hP2 : ∀ v j, P2 v j = cvt (v (Fin.cons ⟨0, Nat.one_pos⟩ j)))
    {h1} {h2} {h3} {h4} {h5} {h6} {h7} {h8}
    (h : Gst m K c b (upd ph i (ph i + 1)) (Function.update sl s .free) ⊢ run c (p ⟨⟩) Q) :
    Gst m K c b ph sl ⊢ run c (.op (.load (Memref.whole cc0_scratch0) (fR t ca sz hi1).toLoadRect h1) fun v =>
      .op (.load (Memref.whole cc0_scratch3) (cR off sz hi3).toLoadRect h2) fun _ =>
      .op (.store (Memref.whole cc0_scratch3) (cR off sz hi4) (P1 v) Finset.univ h3 h4) fun _ =>
      .op (.load (Memref.whole cc0_scratch0) (fR t cb sz hi2).toLoadRect h5) fun w =>
      .op (.load (Memref.whole cc0_scratch1) (cR off sz hi5).toLoadRect h6) fun _ =>
      .op (.store (Memref.whole cc0_scratch1) (cR off sz hi6) (P2 w) Finset.univ h7 h8) p) Q := by
  subst hsz hoff ht hca hcb
  refine adv2 m K c b ph sl i s hp hs (show _ ⊢ _ from ?_) h
  rw [SlotSt_full, SlotSt_free]; unfold uAny sAny uKeep sIs
  iintro ⟨⟨⟨%fu, Hu⟩, ⟨%fs, Hs⟩⟩, ⟨Hz, ⟨%f, %hf, Hf⟩, Hx⟩, Hk⟩
  iapply (wp_load_rect 𝒱₀ (c : Thread nD τ) none Set.univ (m := Memref.whole cc0_scratch0) (r := fR s.val (mx c * 1024) (SZ i) hi1) (fR_set s _ _ hi1)) $$ Hf; iintro Hf
  iapply (wp_load_rect 𝒱₀ (c : Thread nD τ) none Set.univ (m := Memref.whole cc0_scratch3) (r := cR (OFF i) (SZ i) hi3) (by rw [uA_set])) $$ Hu; iintro Hu
  iapply (wp_store 𝒱₀ (c : Thread nD τ) none Set.univ (m := Memref.whole cc0_scratch3) (r := cR (OFF i) (SZ i) hi4) (Mk := Finset.univ)
    (by rw [View.setOn_univ, uA_set])) $$ Hu; iintro Hu
  iapply (wp_load_rect 𝒱₀ (c : Thread nD τ) none Set.univ (m := Memref.whole cc0_scratch0) (r := fR s.val ((1 - mx c) * 1024) (SZ i) hi2) (fR_set s _ _ hi2)) $$ Hf; iintro Hf
  iapply (wp_load_rect 𝒱₀ (c : Thread nD τ) none Set.univ (m := Memref.whole cc0_scratch1) (r := cR (OFF i) (SZ i) hi5) (by rw [sA_set])) $$ Hs; iintro Hs
  iapply (wp_store 𝒱₀ (c : Thread nD τ) none Set.univ (m := Memref.whole cc0_scratch1) (r := cR (OFF i) (SZ i) hi6) (Mk := Finset.univ)
    (by rw [View.setOn_univ, sA_set])) $$ Hs; iintro Hs
  ihave Hu := (Entails.of_eq (pointsTo_congr (ℓ := uL c) (I := chS i) (q := fullShare)
      (rounded_u c i hi4 (V := keepV m c) _ (rounded m c i s (mx c) hi1 hi4 (mx_lt c) f hf P1 hP1) fu))) $$ Hu
  ihave Hs := (Entails.of_eq (pointsTo_congr (ℓ := sL c) (I := chS i) (q := fullShare)
      (rounded_s c i hi6 (V := sendV m c) _ (rounded m c i s (1 - mx c) hi2 hi6 (by omega) f hf P2 hP2) fs))) $$ Hs
  ispecialize Hk $$ Hu
  ispecialize Hk $$ Hs
  iapply Hk
  isplitl [Hz]; · iexact Hz
  isplitl [Hf]; · iexists f; iexact Hf
  iexact Hx

/-- The rounding as the kernel writes it: which half goes where is decided by the first coordinate `v`. -/
theorem step_ifs (c : Dev nD) (b : ℕ) (ph : Fin 14 → ℕ) (sl : Fin 2 → Slot) (i : Fin 14) (s : Fin 2) {α : Type} (p : Pr F α) (Q : α → sProp 𝕄)
    (v : BitVec 32) (hv : v = BitVec.ofNat 32 (mx c))
    {sz off t : ℕ} (hsz : SZ i = sz) (hoff : OFF i = off) (ht : s.val = t) (hp : ph i = 0 ∨ ph i = 2) (hs : sl s = .full i)
    {hi1 hi2} {hi3 hi4 hi5 hi6 : ∀ a, (![off, 0] : Fin 2 → ℕ) a + (![sz, 1024] : Fin 2 → ℕ) a ≤ S4096x1024.size a}
    (P1 P2 P3 P4 : Vec F ⟨3, ![1, sz, 1024]⟩ .f32 → Vec F ⟨2, ![sz, 1024]⟩ .bf16)
    (hP1 : ∀ v j, P1 v j = cvt (v (Fin.cons ⟨0, Nat.one_pos⟩ j))) (hP2 : ∀ v j, P2 v j = cvt (v (Fin.cons ⟨0, Nat.one_pos⟩ j)))
    (hP3 : ∀ v j, P3 v j = cvt (v (Fin.cons ⟨0, Nat.one_pos⟩ j))) (hP4 : ∀ v j, P4 v j = cvt (v (Fin.cons ⟨0, Nat.one_pos⟩ j)))
    {h1} {h2} {h3} {h4} {h5} {h6} {h7} {h8}
    (h : Gst m K c b (upd ph i (ph i + 1)) (Function.update sl s .free) ⊢ run c p Q) :
    Gst m K c b ph sl ⊢ run c
      (if _ : Scalar.cmpi .ne (Scalar.extui (Scalar.cmpi .eq v 0#32) : BitVec 32) 0#32 = 1#1 then
        .op (.load (Memref.whole cc0_scratch0) (fR t 0 sz hi1).toLoadRect h1) fun x =>
        .op (.load (Memref.whole cc0_scratch3) (cR off sz hi3).toLoadRect h2) fun _ =>
        .op (.store (Memref.whole cc0_scratch3) (cR off sz hi4) (P1 x) Finset.univ h3 h4) fun _ =>
        .op (.load (Memref.whole cc0_scratch0) (fR t 1024 sz hi2).toLoadRect h5) fun w =>
        .op (.load (Memref.whole cc0_scratch1) (cR off sz hi5).toLoadRect h6) fun _ =>
        .op (.store (Memref.whole cc0_scratch1) (cR off sz hi6) (P2 w) Finset.univ h7 h8) fun _ =>
        if _ : Scalar.cmpi .ne (Scalar.extui (Scalar.cmpi .eq v 1#32) : BitVec 32) 0#32 = 1#1 then
          .op (.load (Memref.whole cc0_scratch0) (fR t 1024 sz hi2).toLoadRect h5) fun x =>
          .op (.load (Memref.whole cc0_scratch3) (cR off sz hi3).toLoadRect h2) fun _ =>
          .op (.store (Memref.whole cc0_scratch3) (cR off sz hi4) (P3 x) Finset.univ h3 h4) fun _ =>
          .op (.load (Memref.whole cc0_scratch0) (fR t 0 sz hi1).toLoadRect h1) fun w =>
          .op (.load (Memref.whole cc0_scratch1) (cR off sz hi5).toLoadRect h6) fun _ =>
          .op (.store (Memref.whole cc0_scratch1) (cR off sz hi6) (P4 w) Finset.univ h7 h8) fun _ => p
        else p
      else if _ : Scalar.cmpi .ne (Scalar.extui (Scalar.cmpi .eq v 1#32) : BitVec 32) 0#32 = 1#1 then
        .op (.load (Memref.whole cc0_scratch0) (fR t 1024 sz hi2).toLoadRect h5) fun x =>
        .op (.load (Memref.whole cc0_scratch3) (cR off sz hi3).toLoadRect h2) fun _ =>
        .op (.store (Memref.whole cc0_scratch3) (cR off sz hi4) (P3 x) Finset.univ h3 h4) fun _ =>
        .op (.load (Memref.whole cc0_scratch0) (fR t 0 sz hi1).toLoadRect h1) fun w =>
        .op (.load (Memref.whole cc0_scratch1) (cR off sz hi5).toLoadRect h6) fun _ =>
        .op (.store (Memref.whole cc0_scratch1) (cR off sz hi6) (P4 w) Finset.univ h7 h8) fun _ => p
      else p) Q := by
  subst hv
  have hm := mx_lt c
  rcases (show mx c = 0 ∨ mx c = 1 by omega) with hx | hx
  · rw [dif_pos (by rw [hx]; decide)]
    refine step_store m K c b ph sl i s _ Q hsz hoff ht (by rw [hx]) (by rw [hx]) hp hs P1 P2 hP1 hP2 ?_
    rw [dif_neg (by rw [hx]; decide)]; exact h
  · rw [dif_neg (by rw [hx]; decide), dif_pos (by rw [hx]; decide)]
    exact step_store m K c b ph sl i s _ Q hsz hoff ht (by rw [hx]) (by rw [hx]) hp hs P3 P4 hP3 hP4 h

end Cert.KernelIdealProof
-- ==== Proof.TurnsIdeal.lean ====
/-
# A chunk's turn in each of the two loops

The operations of a chunk's turn, in the program's order, stated for any chunk that has a next one.
-/
module

public import proofs.«01_k».proof.Proof.StoreIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Stages and slots of all chunks -/

/-- Stages: `a` below chunk `k`, `b` at it, `d` above. -/
def st3 (k a b d : ℕ) : Fin 14 → ℕ := fun j => if j.val < k then a else if j.val = k then b else d
/-- Slots: `s` is `a`, the other is unused. -/
def one (s : Fin 2) (a : Slot) : Fin 2 → Slot := fun x => if x = s then a else .free
/-- Both slots are unused. -/
def none2 : Fin 2 → Slot := fun _ => .free

theorem upd_self (ph : Fin 14 → ℕ) (i : Fin 14) (n : ℕ) : upd ph i n i = n := Function.update_self ..
theorem upd_ne {ph : Fin 14 → ℕ} {i k : Fin 14} {n : ℕ} (h : k ≠ i) : upd ph i n k = ph k := Function.update_of_ne h ..

/-- Chunk `h` comes to stage `a`, and the next one to `b`. -/
theorem st3_next {h i : Fin 14} (hi : i.val = h.val + 1) (a b d : ℕ) (k : Fin 14) : upd (upd (st3 h.val a b d) h a) i b k = st3 i.val a b d k := by
  by_cases h1 : k = i
  · subst h1; rw [upd_self]; unfold st3; rw [if_neg (by omega), if_pos rfl]
  rw [upd_ne h1]
  by_cases h2 : k = h
  · subst h2; rw [upd_self]; unfold st3; rw [if_pos (by omega)]
  rw [upd_ne h2]
  unfold st3
  have h1' : k.val ≠ i.val := fun e => h1 (Fin.ext e)
  have h2' : k.val ≠ h.val := fun e => h2 (Fin.ext e)
  rw [if_neg h2', if_neg h1']
  by_cases h3 : k.val < h.val
  · rw [if_pos h3, if_pos (by omega)]
  · rw [if_neg h3, if_neg (by omega)]

theorem run_end (c : Dev nD) {b : ℕ} {ph ph' : Fin 14 → ℕ} {sl sl' : Fin 2 → Slot} {α : Type} (x : α) (hp : ∀ j, ph j = ph' j) (hs : ∀ s, sl s = sl' s) :
    Gst m K c b ph sl ⊢ run c (.ret x) fun _ => Gst m K c b ph' sl' := by
  obtain rfl := funext hp; obtain rfl := funext hs
  refine (show _ ⊢ _ from ?_)
  unfold run; rw [wp_ret]
  iintro H
  imodintro; iexact H

/-- A program whose first piece ends in a state from which the rest runs. -/
theorem run_seq (c : Dev nD) {α β : Type} (p : Pr F β) (k : β → Pr F α) (Q : α → sProp 𝕄) {P R : sProp 𝕄} (hp : P ⊢ run c p fun _ => R)
    (hk : ∀ x, R ⊢ run c (k x) Q) : P ⊢ run c (p >>= k) Q := by
  unfold run at hp hk ⊢
  rw [wp_bind]
  exact hp.trans (wp_mono _ _ _ fun x => hk x)

theorem step_dev (c : Dev nD) {α : Type} (k : Dev nD → Pr F α) (Q : α → sProp 𝕄) {P : sProp 𝕄} (h : P ⊢ run c (k c) Q) : P ⊢ run c (.op .deviceId k) Q := by
  unfold run at h ⊢
  rw [wp_deviceId]; exact h

/-! ## One turn of each loop -/

section Turns
variable (c : Dev nD)

/-- A turn of the loop that sends across the first axis: chunk `i - 1` leaves, the copy of chunk `i + 1` into its slot starts, chunk `i` has come into its
    slot and is rounded. -/
theorem turn_x {h i j : Fin 14} {s t : Fin 2} (hi : i.val = h.val + 1) (hj : j.val = i.val + 1) (hst : s ≠ t) {v : BitVec 32} (hv : v = BitVec.ofNat 32 (mx c))
    {z0 z1 z2 o0 o1 o2 s' t' : ℕ} (hz0 : SZ h = z0) (hz1 : SZ i = z1) (hz2 : SZ j = z2) (ho0 : OFF h = o0) (ho1 : OFF i = o1) (ho2 : OFF j = o2)
    (hs' : s.val = s') (ht' : t.val = t') {d : Dev nD} (hd : d = pX c)
    {a0} {a1} {qs qr : DmaSem sig} (hqs : qs = dS 0 h) (hqr : qr = dS 1 h) {b0} {b1} {b2} {b3}
    {o : Fin 3 → ℕ} (h0 : o 0 = 0) (h1 : o 1 = my c * 4096 + o2) (h2 : o 2 = 0) {a2} {a3} {a4} {a5} {qt : DmaSem sig} (hqt : qt = iS t) {b4} {b5} {b6}
    {sp sp' : Space} {e1 e2 : Shape} {e e' : EltTy} {κ' : Kind} {q : DmaSem sig} (hq : q = iS s)
    {src : Memref sig .tc sp' e2 e'} {dst : Memref sig κ' sp e1 e} (hN : dst.view.dmaCredit = NI i) {b7} {b8}
    {hi1 hi2} {hi3 hi4 hi5 hi6 : ∀ a, (![o1, 0] : Fin 2 → ℕ) a + (![z1, 1024] : Fin 2 → ℕ) a ≤ S4096x1024.size a}
    {P1 P2 P3 P4 : Vec F ⟨3, ![1, z1, 1024]⟩ .f32 → Vec F ⟨2, ![z1, 1024]⟩ .bf16}
    (hP1 : ∀ v j, P1 v j = cvt (v (Fin.cons ⟨0, Nat.one_pos⟩ j))) (hP2 : ∀ v j, P2 v j = cvt (v (Fin.cons ⟨0, Nat.one_pos⟩ j)))
    (hP3 : ∀ v j, P3 v j = cvt (v (Fin.cons ⟨0, Nat.one_pos⟩ j))) (hP4 : ∀ v j, P4 v j = cvt (v (Fin.cons ⟨0, Nat.one_pos⟩ j)))
    {g1} {g2} {g3} {g4} {g5} {g6} {g7} {g8} {α : Type} (x : α) :
    Gst m K c 3 (st3 h.val 4 3 2) (one s (.busy i)) ⊢ run c
      (.op (.enqueueDma (sM ![o0, 0] z0 a0) (.remote (Dev.tc d) (vM ![o0, 0] z0 a1) (.dma qs) b0) (.dma qr) b1 b2 b3) fun _ =>
      .op (.enqueueDma (xM o z2 a2 a3) (.here (fM t' z2 a4 a5)) (.dma qt) b4 b5 b6) fun _ =>
      .op (.waitDma2 q src dst b7 b8) fun _ =>
      (if _ : Scalar.cmpi .ne (Scalar.extui (Scalar.cmpi .eq v 0#32) : BitVec 32) 0#32 = 1#1 then
        .op (.load (Memref.whole cc0_scratch0) (fR s' 0 z1 hi1).toLoadRect g1) fun x' =>
        .op (.load (Memref.whole cc0_scratch3) (cR o1 z1 hi3).toLoadRect g2) fun _ =>
        .op (.store (Memref.whole cc0_scratch3) (cR o1 z1 hi4) (P1 x') Finset.univ g3 g4) fun _ =>
        .op (.load (Memref.whole cc0_scratch0) (fR s' 1024 z1 hi2).toLoadRect g5) fun w =>
        .op (.load (Memref.whole cc0_scratch1) (cR o1 z1 hi5).toLoadRect g6) fun _ =>
        .op (.store (Memref.whole cc0_scratch1) (cR o1 z1 hi6) (P2 w) Finset.univ g7 g8) fun _ =>
        if _ : Scalar.cmpi .ne (Scalar.extui (Scalar.cmpi .eq v 1#32) : BitVec 32) 0#32 = 1#1 then
          .op (.load (Memref.whole cc0_scratch0) (fR s' 1024 z1 hi2).toLoadRect g5) fun x' =>
          .op (.load (Memref.whole cc0_scratch3) (cR o1 z1 hi3).toLoadRect g2) fun _ =>
          .op (.store (Memref.whole cc0_scratch3) (cR o1 z1 hi4) (P3 x') Finset.univ g3 g4) fun _ =>
          .op (.load (Memref.whole cc0_scratch0) (fR s' 0 z1 hi1).toLoadRect g1) fun w =>
          .op (.load (Memref.whole cc0_scratch1) (cR o1 z1 hi5).toLoadRect g6) fun _ =>
          .op (.store (Memref.whole cc0_scratch1) (cR o1 z1 hi6) (P4 w) Finset.univ g7 g8) fun _ => .ret x
        else .ret x
      else if _ : Scalar.cmpi .ne (Scalar.extui (Scalar.cmpi .eq v 1#32) : BitVec 32) 0#32 = 1#1 then
        .op (.load (Memref.whole cc0_scratch0) (fR s' 1024 z1 hi2).toLoadRect g5) fun x' =>
        .op (.load (Memref.whole cc0_scratch3) (cR o1 z1 hi3).toLoadRect g2) fun _ =>
        .op (.store (Memref.whole cc0_scratch3) (cR o1 z1 hi4) (P3 x') Finset.univ g3 g4) fun _ =>
        .op (.load (Memref.whole cc0_scratch0) (fR s' 0 z1 hi1).toLoadRect g1) fun w =>
        .op (.load (Memref.whole cc0_scratch1) (cR o1 z1 hi5).toLoadRect g6) fun _ =>
        .op (.store (Memref.whole cc0_scratch1) (cR o1 z1 hi6) (P4 w) Finset.univ g7 g8) fun _ => .ret x
      else .ret x)) fun _ => Gst m K c 3 (st3 i.val 4 3 2) (one t (.busy j)) := by
  have hne : h ≠ i := fun e => by rw [e] at hi; omega
  have hst' := hst.symm
  refine step_xsend m K c 3 _ _ h _ _ hz0 ho0 (by unfold st3; rw [if_neg (by omega), if_pos rfl]) d hd qs qr hqs hqr ?_
  refine step_start m K c 3 _ _ j t _ _ hz2 ho2 ht' (if_neg hst') h0 h1 h2 qt hqt ?_
  refine step_full m K c 3 _ _ i s _ _ (by rw [Function.update_of_ne hst]; exact if_pos rfl) q hq src dst hN ?_
  have hph : upd (st3 h.val 4 3 2) h 4 i = 2 := by
    rw [upd_ne hne.symm]; unfold st3; rw [if_neg (by omega), if_neg (by omega)]
  refine step_ifs m K c 3 _ _ i s _ _ v hv hz1 ho1 hs' (.inr hph) (Function.update_self ..) P1 P2 P3 P4 hP1 hP2 hP3 hP4 ?_
  refine run_end m K c x (fun k => ?_) (fun k => ?_)
  · rw [hph]; exact st3_next hi 4 3 2 k
  · by_cases h1 : k = s
    · subst h1; rw [Function.update_self]; exact (if_neg hst).symm
    rw [Function.update_of_ne h1, Function.update_of_ne h1]
    by_cases h2 : k = t
    · subst h2; rw [Function.update_self]; exact (if_pos rfl).symm
    rw [Function.update_of_ne h2]; exact (if_neg h1).trans (if_neg h2).symm

/-- A turn of the loop that sends along the second axis: the sum of chunk `h` leaves, chunk `i` comes from across the first axis, is added, and its sum is
    copied into the device's own result. -/
theorem turn_y {h i : Fin 14} (hi : i.val = h.val + 1)
    {z0 z1 o0 o1 : ℕ} (hz0 : SZ h = z0) (hz1 : SZ i = z1) (ho0 : OFF h = o0) (ho1 : OFF i = o1) {d : Dev nD} (hd : d = pY c)
    {a0} {o : Fin 2 → ℕ} (h0 : o 0 = my c * 4096 + o0) (h1 : o 1 = 0) {a1} {qs qr : DmaSem sig} (hqs : qs = dS 2 h) (hqr : qr = dS 3 h) {b0} {b1} {b2} {b3}
    {sp sp' : Space} {e1 e2 : Shape} {e e' : EltTy} {κ' : Kind} {q : DmaSem sig} (hq : q = dS 1 i)
    {src : Memref sig .tc sp' e2 e'} {dst : Memref sig κ' sp e1 e} (hN : dst.view.dmaCredit = NN i) {b7} {b8}
    {hi1 hi2 hi3 hi4 : ∀ a, (![o1, 0] : Fin 2 → ℕ) a + (![z1, 1024] : Fin 2 → ℕ) a ≤ S4096x1024.size a}
    {P : Vec F ⟨2, ![z1, 1024]⟩ .bf16 → Vec F ⟨2, ![z1, 1024]⟩ .bf16 → Vec F ⟨2, ![z1, 1024]⟩ .bf16} (hP : ∀ v w j, P v w j = add (v j) (w j))
    {g1} {g2} {g3} {g4} {g5}
    {a3} {o' : Fin 2 → ℕ} (h0' : o' 0 = my c * 4096 + o1) (h1' : o' 1 = 0) {a4} {qo : DmaSem sig} (hqo : qo = oS i) {b4} {b5} {b6} {α : Type} (x : α) :
    Gst m K c 3 (st3 h.val 8 7 4) none2 ⊢ run c
      (.op (.enqueueDma (uM ![o0, 0] z0 a0) (.remote (Dev.tc d) (oM o z0 a1) (.dma qs) b0) (.dma qr) b1 b2 b3) fun _ =>
      .op (.waitDma2 q src dst b7 b8) fun _ =>
      .op (.load (Memref.whole cc0_scratch3) (cR o1 z1 hi1).toLoadRect g1) fun v =>
      .op (.load (Memref.whole cc0_scratch2) (cR o1 z1 hi2).toLoadRect g2) fun w =>
      .op (.load (Memref.whole cc0_scratch3) (cR o1 z1 hi3).toLoadRect g3) fun _ =>
      .op (.store (Memref.whole cc0_scratch3) (cR o1 z1 hi4) (P v w) Finset.univ g4 g5) fun _ =>
      .op (.enqueueDma (uM ![o1, 0] z1 a3) (.here (oM o' z1 a4)) (.dma qo) b4 b5 b6) fun _ => .ret x)
      fun _ => Gst m K c 3 (st3 i.val 8 7 4) none2 := by
  have hne : h ≠ i := fun e => by rw [e] at hi; omega
  have hst : st3 h.val 8 7 4 h = 7 := by unfold st3; rw [if_neg (by omega), if_pos rfl]
  refine step_ysend m K c 3 _ _ h _ _ hz0 ho0 hst d hd h0 h1 qs qr hqs hqr ?_
  refine step_xrecv m K c 3 _ _ i q src dst _ _ hN hq ?_ (by decide) (fun k => ?_) ?_
  · rw [upd_ne hne.symm]; unfold st3; rw [if_neg (by omega), if_neg (by omega)]
  · by_cases h1 : k = h
    · subst h1; rw [upd_self]; decide
    rw [upd_ne h1]; unfold st3; split
    · decide
    split <;> decide
  refine step_add m K c 3 _ _ i _ _ hz1 ho1 (Function.update_self ..) P hP ?_
  refine step_out m K c 3 _ _ i _ _ hz1 ho1 (Function.update_self ..) h0' h1' qo hqo ?_
  refine run_end m K c x (fun k => ?_) (fun k => rfl)
  by_cases h1 : k = i
  · subst h1; rw [upd_self, ← st3_next hi 8 7 4, upd_self]
  exact (upd_ne h1).trans ((upd_ne h1).trans ((upd_ne h1).trans ((upd_ne h1).symm.trans (st3_next hi 8 7 4 k))))

end Turns

end Cert.KernelIdealProof
-- ==== Proof.BodyIdeal.lean ====
/-
# The body's run

The kernel's pieces in the program's order, from the state at the start to the state at the end. Each piece is run by the
lemmas on a step or on a turn, at its chunk's number, offset and size.
-/
module

public import proofs.«01_k».proof.Proof.TurnsIdeal
public import proofs.«01_k».proof.Proof.Gen.KernelIdeal.Skeleton

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A printed piece of the kernel at the launch's buffers. -/
abbrev on {β : Type 1}
    (f : (a0 : Memref sig .tc .hbm S1x8192x2048 .f32) → a0.IsWhole → (a1 : Memref sig .tc .hbm S8192x1024 .bf16) → a1.IsWhole →
      (a2 : Memref sig .tc .vmem S2x512x2048 .f32) → a2.IsWhole → (a3 : Memref sig .tc .vmem S4096x1024 .bf16) → a3.IsWhole →
      (a4 : Memref sig .tc .vmem S4096x1024 .bf16) → a4.IsWhole → (a5 : Memref sig .tc .vmem S4096x1024 .bf16) → a5.IsWhole →
      DmaSems sig S2 → DmaSems sig S14 → DmaSems sig S14 → DmaSems sig S14 → DmaSems sig S14 → DmaSems sig S14 → β) : β :=
  f (Memref.whole main_arg0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9

/-- The handshake's two signals and the first copy. -/
theorem part1 (c : Dev nD) {α : Type} (k : _ → Pr F α) (Q : α → sProp 𝕄)
    (h : ∀ v5 v6 v7 v8 : BitVec 32, Gst m K c 2 (st3 0 0 0 0) (one 0 (.busy 0)) ⊢ run c (k ⟨c, BitVec.ofNat 32 (mx c), v5, v6, v7, v8, SemArray.scalar (sig.barrier 0 rfl)⟩) Q) :
    Gst m K c 0 (st3 0 0 0 0) none2 ⊢ run c (on k0_part1 >>= k) Q := by
  rw [k0_part1_eq_skeleton]; unfold k0_part1_skel
  simp only [on, semSignalWord, semWaitWord, Prog.lift, Prog.bind_op, Prog.bind_ret, Prog.pure_eq_ret]
  refine step_dev c _ _ ?_
  refine step_sig1 m K c _ _ _ (by clear h; revert c; decide) _ rfl _ _ ?_
  refine step_sig2 m K c _ _ _ (by clear h; revert c; decide) _ rfl _ _ ?_
  refine step_start m K c 2 _ _ 0 0 _ _ (sz := 64) (off := 0) (t := 0) rfl rfl rfl rfl (by clear h; revert c; decide) (by clear h; revert c; decide) (by clear h; revert c; decide) _ rfl ?_
  have e : Scalar.remsi (Scalar.divsi (Dev.word c) 2#32) 2#32 = BitVec.ofNat 32 (mx c) := by clear h; revert c; decide
  rw [e, show Function.update none2 0 (Slot.busy 0) = one 0 (.busy 0) from funext (by decide)]
  exact h _ _ _ _

/-- The first chunk; the wait for both neighbours comes before its send. -/
theorem part2 (c : Dev nD) (v2 v5 v6 v8 : BitVec 32) (hv : v2 = BitVec.ofNat 32 (mx c)) :
    Gst m K c 2 (st3 0 0 0 0) (one 0 (.busy 0)) ⊢ run c (on k0_part2 c v2 v5 v6 v8 (SemArray.scalar (sig.barrier 0 rfl))) fun _ => Gst m K c 3 (st3 1 4 2 2) (one 1 (.busy 1)) := by
  rw [k0_part2_eq_skeleton]; unfold k0_part2_skel
  simp only [on, semSignalWord, semWaitWord, Prog.lift, Prog.bind_op, Prog.bind_ret, Prog.pure_eq_ret]
  refine step_start m K c 2 _ _ 1 1 _ _ (sz := 128) (off := 64) (t := 1) rfl rfl rfl rfl (by clear hv; revert c; decide) (by clear hv; revert c; decide) (by clear hv; revert c; decide) _ rfl ?_
  refine step_full m K c 2 _ _ 0 0 _ _ rfl _ rfl _ _ rfl ?_
  refine step_ifs m K c 2 _ _ 0 0 _ _ v2 hv (sz := 64) (off := 0) (t := 0) rfl rfl rfl (.inl rfl) rfl _ _ _ _ (fun v => cvt_pay v _ _)
    (fun v => cvt_pay v _ _) (fun v => cvt_pay v _ _) (fun v => cvt_pay v _ _) ?_
  refine step_bar m K c _ _ (by decide) _ rfl _ _ ?_
  refine step_xsend m K c 3 _ _ 0 _ _ (sz := 64) (off := 0) rfl rfl rfl _ (by clear hv; revert c; decide) _ _ rfl rfl ?_
  exact run_end m K c _ (by decide) (by decide)

theorem part3 (c : Dev nD) (v2 v5 v6 v8 : BitVec 32) (hv : v2 = BitVec.ofNat 32 (mx c)) :
    Gst m K c 3 (st3 1 4 2 2) (one 1 (.busy 1)) ⊢ run c (on k0_part3 c v2 v5 v6 v8) fun _ => Gst m K c 3 (st3 2 4 2 2) (one 0 (.busy 2)) := by
  rw [k0_part3_eq_skeleton]; unfold k0_part3_skel
  simp only [on, semSignalWord, semWaitWord, Prog.lift, Prog.bind_op, Prog.bind_ret, Prog.pure_eq_ret]
  refine step_start m K c 3 _ _ 2 0 _ _ (sz := 256) (off := 192) (t := 0) rfl rfl rfl rfl (by clear hv; revert c; decide) (by clear hv; revert c; decide) (by clear hv; revert c; decide) _ rfl ?_
  refine step_full m K c 3 _ _ 1 1 _ _ rfl _ rfl _ _ rfl ?_
  refine step_ifs m K c 3 _ _ 1 1 _ _ v2 hv (sz := 128) (off := 64) (t := 1) rfl rfl rfl (.inr rfl) rfl _ _ _ _ (fun v => cvt_pay v _ _)
    (fun v => cvt_pay v _ _) (fun v => cvt_pay v _ _) (fun v => cvt_pay v _ _) ?_
  refine step_xsend m K c 3 _ _ 1 _ _ (sz := 128) (off := 64) rfl rfl rfl _ (by clear hv; revert c; decide) _ _ rfl rfl ?_
  exact run_end m K c _ (by decide) (by decide)

theorem part4 (c : Dev nD) (v2 v5 v6 v8 : BitVec 32) (hv : v2 = BitVec.ofNat 32 (mx c)) :
    Gst m K c 3 (st3 2 4 2 2) (one 0 (.busy 2)) ⊢ run c (on k0_part4 c v2 v5 v6 v8) fun _ => Gst m K c 3 (st3 3 4 2 2) (one 1 (.busy 3)) := by
  rw [k0_part4_eq_skeleton]; unfold k0_part4_skel
  simp only [on, semSignalWord, semWaitWord, Prog.lift, Prog.bind_op, Prog.bind_ret, Prog.pure_eq_ret]
  refine step_start m K c 3 _ _ 3 1 _ _ (sz := 512) (off := 448) (t := 1) rfl rfl rfl rfl (by clear hv; revert c; decide) (by clear hv; revert c; decide) (by clear hv; revert c; decide) _ rfl ?_
  refine step_full m K c 3 _ _ 2 0 _ _ rfl _ rfl _ _ rfl ?_
  refine step_ifs m K c 3 _ _ 2 0 _ _ v2 hv (sz := 256) (off := 192) (t := 0) rfl rfl rfl (.inr rfl) rfl _ _ _ _ (fun v => cvt_pay v _ _)
    (fun v => cvt_pay v _ _) (fun v => cvt_pay v _ _) (fun v => cvt_pay v _ _) ?_
  refine step_xsend m K c 3 _ _ 2 _ _ (sz := 256) (off := 192) rfl rfl rfl _ (by clear hv; revert c; decide) _ _ rfl rfl ?_
  exact run_end m K c _ (by decide) (by decide)

theorem part5 (c : Dev nD) (v2 v5 v6 v8 : BitVec 32) (hv : v2 = BitVec.ofNat 32 (mx c)) :
    Gst m K c 3 (st3 3 4 2 2) (one 1 (.busy 3)) ⊢ run c (on k0_part5 c v2 v5 v6 v8) fun _ => Gst m K c 3 (st3 3 4 3 2) (one 0 (.busy 4)) := by
  rw [k0_part5_eq_skeleton]; unfold k0_part5_skel
  simp only [on, semSignalWord, semWaitWord, Prog.lift, Prog.bind_op, Prog.bind_ret, Prog.pure_eq_ret]
  refine step_start m K c 3 _ _ 4 0 _ _ (sz := 512) (off := 960) (t := 0) rfl rfl rfl rfl (by clear hv; revert c; decide) (by clear hv; revert c; decide) (by clear hv; revert c; decide) _ rfl ?_
  refine step_full m K c 3 _ _ 3 1 _ _ rfl _ rfl _ _ rfl ?_
  refine step_ifs m K c 3 _ _ 3 1 _ _ v2 hv (sz := 512) (off := 448) (t := 1) rfl rfl rfl (.inr rfl) rfl _ _ _ _ (fun v => cvt_pay v _ _)
    (fun v => cvt_pay v _ _) (fun v => cvt_pay v _ _) (fun v => cvt_pay v _ _) ?_
  exact run_end m K c _ (by decide) (by decide)

theorem part6 (c : Dev nD) (v2 v5 v6 v8 : BitVec 32) (hv : v2 = BitVec.ofNat 32 (mx c)) :
    Gst m K c 3 (st3 3 4 3 2) (one 0 (.busy 4)) ⊢ run c (on k0_part6 c v2 v5 v6 v8) fun _ => Gst m K c 3 (st3 4 4 3 2) (one 1 (.busy 5)) := by
  rw [k0_part6_eq_skeleton]; unfold k0_part6_skel
  simp only [on, semSignalWord, semWaitWord, Prog.lift, Prog.bind_op, Prog.bind_ret, Prog.pure_eq_ret]
  exact turn_x m K c (h := 3) (i := 4) (j := 5) (s := 0) (t := 1) rfl rfl (by decide) hv (z0 := 512) (z1 := 512) (z2 := 512) (o0 := 448) (o1 := 960) (o2 := 1472)
    rfl rfl rfl rfl rfl rfl (s' := 0) (t' := 1) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part7 (c : Dev nD) (v2 v5 v6 v8 : BitVec 32) (hv : v2 = BitVec.ofNat 32 (mx c)) :
    Gst m K c 3 (st3 4 4 3 2) (one 1 (.busy 5)) ⊢ run c (on k0_part7 c v2 v5 v6 v8) fun _ => Gst m K c 3 (st3 5 4 3 2) (one 0 (.busy 6)) := by
  rw [k0_part7_eq_skeleton]; unfold k0_part7_skel
  simp only [on, semSignalWord, semWaitWord, Prog.lift, Prog.bind_op, Prog.bind_ret, Prog.pure_eq_ret]
  exact turn_x m K c (h := 4) (i := 5) (j := 6) (s := 1) (t := 0) rfl rfl (by decide) hv (z0 := 512) (z1 := 512) (z2 := 512) (o0 := 960) (o1 := 1472) (o2 := 1984)
    rfl rfl rfl rfl rfl rfl (s' := 1) (t' := 0) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part8 (c : Dev nD) (v2 v5 v6 v8 : BitVec 32) (hv : v2 = BitVec.ofNat 32 (mx c)) :
    Gst m K c 3 (st3 5 4 3 2) (one 0 (.busy 6)) ⊢ run c (on k0_part8 c v2 v5 v6 v8) fun _ => Gst m K c 3 (st3 6 4 3 2) (one 1 (.busy 7)) := by
  rw [k0_part8_eq_skeleton]; unfold k0_part8_skel
  simp only [on, semSignalWord, semWaitWord, Prog.lift, Prog.bind_op, Prog.bind_ret, Prog.pure_eq_ret]
  exact turn_x m K c (h := 5) (i := 6) (j := 7) (s := 0) (t := 1) rfl rfl (by decide) hv (z0 := 512) (z1 := 512) (z2 := 512) (o0 := 1472) (o1 := 1984) (o2 := 2496)
    rfl rfl rfl rfl rfl rfl (s' := 0) (t' := 1) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part9 (c : Dev nD) (v2 v5 v6 v8 : BitVec 32) (hv : v2 = BitVec.ofNat 32 (mx c)) :
    Gst m K c 3 (st3 6 4 3 2) (one 1 (.busy 7)) ⊢ run c (on k0_part9 c v2 v5 v6 v8) fun _ => Gst m K c 3 (st3 7 4 3 2) (one 0 (.busy 8)) := by
  rw [k0_part9_eq_skeleton]; unfold k0_part9_skel
  simp only [on, semSignalWord, semWaitWord, Prog.lift, Prog.bind_op, Prog.bind_ret, Prog.pure_eq_ret]
  exact turn_x m K c (h := 6) (i := 7) (j := 8) (s := 1) (t := 0) rfl rfl (by decide) hv (z0 := 512) (z1 := 512) (z2 := 512) (o0 := 1984) (o1 := 2496) (o2 := 3008)
    rfl rfl rfl rfl rfl rfl (s' := 1) (t' := 0) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part10 (c : Dev nD) (v2 v5 v6 v8 : BitVec 32) (hv : v2 = BitVec.ofNat 32 (mx c)) :
    Gst m K c 3 (st3 7 4 3 2) (one 0 (.busy 8)) ⊢ run c (on k0_part10 c v2 v5 v6 v8) fun _ => Gst m K c 3 (st3 8 4 3 2) (one 1 (.busy 9)) := by
  rw [k0_part10_eq_skeleton]; unfold k0_part10_skel
  simp only [on, semSignalWord, semWaitWord, Prog.lift, Prog.bind_op, Prog.bind_ret, Prog.pure_eq_ret]
  exact turn_x m K c (h := 7) (i := 8) (j := 9) (s := 0) (t := 1) rfl rfl (by decide) hv (z0 := 512) (z1 := 512) (z2 := 320) (o0 := 2496) (o1 := 3008) (o2 := 3520)
    rfl rfl rfl rfl rfl rfl (s' := 0) (t' := 1) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part11 (c : Dev nD) (v2 v6 v8 v286 v287 : BitVec 32) (hv : v2 = BitVec.ofNat 32 (mx c)) :
    Gst m K c 3 (st3 8 4 3 2) (one 1 (.busy 9)) ⊢ run c (on k0_part11 c v2 v6 v8 v286 v287) fun _ => Gst m K c 3 (st3 9 4 3 2) (one 0 (.busy 10)) := by
  rw [k0_part11_eq_skeleton]; unfold k0_part11_skel
  simp only [on, semSignalWord, semWaitWord, Prog.lift, Prog.bind_op, Prog.bind_ret, Prog.pure_eq_ret]
  exact turn_x m K c (h := 8) (i := 9) (j := 10) (s := 1) (t := 0) rfl rfl (by decide) hv (z0 := 512) (z1 := 320) (z2 := 128) (o0 := 3008) (o1 := 3520) (o2 := 3840)
    rfl rfl rfl rfl rfl rfl (s' := 1) (t' := 0) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part12 (c : Dev nD) (v2 v5 v6 v8 v316 : BitVec 32) (hv : v2 = BitVec.ofNat 32 (mx c)) :
    Gst m K c 3 (st3 9 4 3 2) (one 0 (.busy 10)) ⊢ run c (on k0_part12 c v2 v5 v6 v8 v316) fun _ => Gst m K c 3 (st3 10 4 3 2) (one 1 (.busy 11)) := by
  rw [k0_part12_eq_skeleton]; unfold k0_part12_skel
  simp only [on, semSignalWord, semWaitWord, Prog.lift, Prog.bind_op, Prog.bind_ret, Prog.pure_eq_ret]
  exact turn_x m K c (h := 9) (i := 10) (j := 11) (s := 0) (t := 1) rfl rfl (by decide) hv (z0 := 320) (z1 := 128) (z2 := 64) (o0 := 3520) (o1 := 3840) (o2 := 3968)
    rfl rfl rfl rfl rfl rfl (s' := 0) (t' := 1) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part13 (c : Dev nD) (v2 v5 v8 v345 : BitVec 32) (hv : v2 = BitVec.ofNat 32 (mx c)) :
    Gst m K c 3 (st3 10 4 3 2) (one 1 (.busy 11)) ⊢ run c (on k0_part13 c v2 v5 v8 v345) fun _ => Gst m K c 3 (st3 11 4 3 2) (one 0 (.busy 12)) := by
  rw [k0_part13_eq_skeleton]; unfold k0_part13_skel
  simp only [on, semSignalWord, semWaitWord, Prog.lift, Prog.bind_op, Prog.bind_ret, Prog.pure_eq_ret]
  exact turn_x m K c (h := 10) (i := 11) (j := 12) (s := 1) (t := 0) rfl rfl (by decide) hv (z0 := 128) (z1 := 64) (z2 := 32) (o0 := 3840) (o1 := 3968) (o2 := 4032)
    rfl rfl rfl rfl rfl rfl (s' := 1) (t' := 0) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part14 (c : Dev nD) (v2 v5 v6 v8 : BitVec 32) (hv : v2 = BitVec.ofNat 32 (mx c)) :
    Gst m K c 3 (st3 11 4 3 2) (one 0 (.busy 12)) ⊢ run c (on k0_part14 c v2 v5 v6 v8) fun _ => Gst m K c 3 (st3 12 4 3 2) (one 1 (.busy 13)) := by
  rw [k0_part14_eq_skeleton]; unfold k0_part14_skel
  simp only [on, semSignalWord, semWaitWord, Prog.lift, Prog.bind_op, Prog.bind_ret, Prog.pure_eq_ret]
  exact turn_x m K c (h := 11) (i := 12) (j := 13) (s := 0) (t := 1) rfl rfl (by decide) hv (z0 := 64) (z1 := 32) (z2 := 32) (o0 := 3968) (o1 := 4032) (o2 := 4064)
    rfl rfl rfl rfl rfl rfl (s' := 0) (t' := 1) rfl rfl (by clear hv; revert c; decide) rfl rfl (by clear hv; revert c; decide) (by clear hv; revert c; decide) (by clear hv; revert c; decide) rfl rfl rfl
    (fun v => cvt_pay v _ _) (fun v => cvt_pay v _ _) (fun v => cvt_pay v _ _) (fun v => cvt_pay v _ _) _

theorem part15 (c : Dev nD) (v2 v5 v6 v8 : BitVec 32) (hv : v2 = BitVec.ofNat 32 (mx c)) :
    Gst m K c 3 (st3 12 4 3 2) (one 1 (.busy 13)) ⊢ run c (on k0_part15 c v2 v5 v6 v8) fun _ => Gst m K c 3 (st3 13 4 3 2) none2 := by
  rw [k0_part15_eq_skeleton]; unfold k0_part15_skel
  simp only [on, semSignalWord, semWaitWord, Prog.lift, Prog.bind_op, Prog.bind_ret, Prog.pure_eq_ret]
  refine step_xsend m K c 3 _ _ 12 _ _ (sz := 32) (off := 4032) rfl rfl rfl _ (by clear hv; revert c; decide) _ _ rfl rfl ?_
  refine step_full m K c 3 _ _ 13 1 _ _ rfl _ rfl _ _ rfl ?_
  refine step_ifs m K c 3 _ _ 13 1 _ _ v2 hv (sz := 32) (off := 4064) (t := 1) rfl rfl rfl (.inr rfl) rfl _ _ _ _ (fun v => cvt_pay v _ _)
    (fun v => cvt_pay v _ _) (fun v => cvt_pay v _ _) (fun v => cvt_pay v _ _) ?_
  exact run_end m K c _ (by decide) (by decide)

theorem part16 (c : Dev nD) (v2 v5 v6 v7 v8 : BitVec 32) :
    Gst m K c 3 (st3 13 4 3 2) none2 ⊢ run c (on k0_part16 c v2 v5 v6 v7 v8) fun _ => Gst m K c 3 (st3 0 8 7 4) none2 := by
  rw [k0_part16_eq_skeleton]; unfold k0_part16_skel
  simp only [on, semSignalWord, semWaitWord, Prog.lift, Prog.bind_op, Prog.bind_ret, Prog.pure_eq_ret]
  refine step_xsend m K c 3 _ _ 13 _ _ (sz := 32) (off := 4064) rfl rfl rfl _ (by revert c; decide) _ _ rfl rfl ?_
  refine step_xrecv m K c 3 _ _ 0 _ _ _ _ _ rfl rfl rfl (by decide) (by decide) ?_
  refine step_add m K c 3 _ _ 0 _ _ (sz := 64) (off := 0) rfl rfl rfl _ (fun v w => add_pay v w _) ?_
  refine step_out m K c 3 _ _ 0 _ _ (sz := 64) (off := 0) rfl rfl rfl (by revert c; decide) (by revert c; decide) _ rfl ?_
  exact run_end m K c _ (by decide) (by decide)

theorem part17 (c : Dev nD) (v2 v5 v6 v7 v8 : BitVec 32) :
    Gst m K c 3 (st3 0 8 7 4) none2 ⊢ run c (on k0_part17 c v2 v5 v6 v7 v8) fun _ => Gst m K c 3 (st3 1 8 7 4) none2 := by
  rw [k0_part17_eq_skeleton]; unfold k0_part17_skel
  simp only [on, semSignalWord, semWaitWord, Prog.lift, Prog.bind_op, Prog.bind_ret, Prog.pure_eq_ret]
  exact turn_y m K c (h := 0) (i := 1) rfl (z0 := 64) (z1 := 128) (o0 := 0) (o1 := 64) rfl rfl rfl rfl (by revert c; decide) (by revert c; decide) (by revert c; decide) rfl rfl rfl rfl
    (fun v w => add_pay v w _) (by revert c; decide) (by revert c; decide) rfl _

theorem part18 (c : Dev nD) (v2 v5 v6 v7 v8 : BitVec 32) :
    Gst m K c 3 (st3 1 8 7 4) none2 ⊢ run c (on k0_part18 c v2 v5 v6 v7 v8) fun _ => Gst m K c 3 (st3 2 8 7 4) none2 := by
  rw [k0_part18_eq_skeleton]; unfold k0_part18_skel
  simp only [on, semSignalWord, semWaitWord, Prog.lift, Prog.bind_op, Prog.bind_ret, Prog.pure_eq_ret]
  exact turn_y m K c (h := 1) (i := 2) rfl (z0 := 128) (z1 := 256) (o0 := 64) (o1 := 192) rfl rfl rfl rfl (by revert c; decide) (by revert c; decide) (by revert c; decide) rfl rfl rfl rfl
    (fun v w => add_pay v w _) (by revert c; decide) (by revert c; decide) rfl _

theorem part19 (c : Dev nD) (v2 v5 v6 v7 v8 : BitVec 32) :
    Gst m K c 3 (st3 2 8 7 4) none2 ⊢ run c (on k0_part19 c v2 v5 v6 v7 v8) fun _ => Gst m K c 3 (st3 3 8 7 4) none2 := by
  rw [k0_part19_eq_skeleton]; unfold k0_part19_skel
  simp only [on, semSignalWord, semWaitWord, Prog.lift, Prog.bind_op, Prog.bind_ret, Prog.pure_eq_ret]
  exact turn_y m K c (h := 2) (i := 3) rfl (z0 := 256) (z1 := 512) (o0 := 192) (o1 := 448) rfl rfl rfl rfl (by revert c; decide) (by revert c; decide) (by revert c; decide) rfl rfl rfl rfl
    (fun v w => add_pay v w _) (by revert c; decide) (by revert c; decide) rfl _

theorem part20 (c : Dev nD) (v2 v5 v6 v8 v545 v546 : BitVec 32) :
    Gst m K c 3 (st3 3 8 7 4) none2 ⊢ run c (on k0_part20 c v2 v5 v6 v8 v545 v546) fun _ => Gst m K c 3 (st3 4 8 7 4) none2 := by
  rw [k0_part20_eq_skeleton]; unfold k0_part20_skel
  simp only [on, semSignalWord, semWaitWord, Prog.lift, Prog.bind_op, Prog.bind_ret, Prog.pure_eq_ret]
  exact turn_y m K c (h := 3) (i := 4) rfl (z0 := 512) (z1 := 512) (o0 := 448) (o1 := 960) rfl rfl rfl rfl (by revert c; decide) (by revert c; decide) (by revert c; decide) rfl rfl rfl rfl
    (fun v w => add_pay v w _) (by revert c; decide) (by revert c; decide) rfl _

theorem part21 (c : Dev nD) (v2 v5 v6 v7 v8 v574 c1_i32_497 : BitVec 32) :
    Gst m K c 3 (st3 4 8 7 4) none2 ⊢ run c (on k0_part21 c v2 v5 v6 v7 v8 v574 c1_i32_497) fun _ => Gst m K c 3 (st3 5 8 7 4) none2 := by
  rw [k0_part21_eq_skeleton]; unfold k0_part21_skel
  simp only [on, semSignalWord, semWaitWord, Prog.lift, Prog.bind_op, Prog.bind_ret, Prog.pure_eq_ret]
  exact turn_y m K c (h := 4) (i := 5) rfl (z0 := 512) (z1 := 512) (o0 := 960) (o1 := 1472) rfl rfl rfl rfl (by revert c; decide) (by revert c; decide) (by revert c; decide) rfl rfl rfl rfl
    (fun v w => add_pay v w _) (by revert c; decide) (by revert c; decide) rfl _

theorem part22 (c : Dev nD) (v2 v5 v6 v7 v8 v603 : BitVec 32) :
    Gst m K c 3 (st3 5 8 7 4) none2 ⊢ run c (on k0_part22 c v2 v5 v6 v7 v8 v603) fun _ => Gst m K c 3 (st3 6 8 7 4) none2 := by
  rw [k0_part22_eq_skeleton]; unfold k0_part22_skel
  simp only [on, semSignalWord, semWaitWord, Prog.lift, Prog.bind_op, Prog.bind_ret, Prog.pure_eq_ret]
  exact turn_y m K c (h := 5) (i := 6) rfl (z0 := 512) (z1 := 512) (o0 := 1472) (o1 := 1984) rfl rfl rfl rfl (by revert c; decide) (by revert c; decide) (by revert c; decide) rfl rfl rfl rfl
    (fun v w => add_pay v w _) (by revert c; decide) (by revert c; decide) rfl _

theorem part23 (c : Dev nD) (v2 v5 v6 v7 v8 v631 c0_i32_550 : BitVec 32) :
    Gst m K c 3 (st3 6 8 7 4) none2 ⊢ run c (on k0_part23 c v2 v5 v6 v7 v8 v631 c0_i32_550) fun _ => Gst m K c 3 (st3 7 8 7 4) none2 := by
  rw [k0_part23_eq_skeleton]; unfold k0_part23_skel
  simp only [on, semSignalWord, semWaitWord, Prog.lift, Prog.bind_op, Prog.bind_ret, Prog.pure_eq_ret]
  exact turn_y m K c (h := 6) (i := 7) rfl (z0 := 512) (z1 := 512) (o0 := 1984) (o1 := 2496) rfl rfl rfl rfl (by revert c; decide) (by revert c; decide) (by revert c; decide) rfl rfl rfl rfl
    (fun v w => add_pay v w _) (by revert c; decide) (by revert c; decide) rfl _

theorem part24 (c : Dev nD) (v5 v6 v7 v8 v660 : BitVec 32) :
    Gst m K c 3 (st3 7 8 7 4) none2 ⊢ run c (on k0_part24 c v5 v6 v7 v8 v660) fun _ => Gst m K c 3 (st3 8 8 7 4) none2 := by
  rw [k0_part24_eq_skeleton]; unfold k0_part24_skel
  simp only [on, semSignalWord, semWaitWord, Prog.lift, Prog.bind_op, Prog.bind_ret, Prog.pure_eq_ret]
  exact turn_y m K c (h := 7) (i := 8) rfl (z0 := 512) (z1 := 512) (o0 := 2496) (o1 := 3008) rfl rfl rfl rfl (by revert c; decide) (by revert c; decide) (by revert c; decide) rfl rfl rfl rfl
    (fun v w => add_pay v w _) (by revert c; decide) (by revert c; decide) rfl _

theorem part25 (c : Dev nD) (v2 v5 v6 v7 v8 c2_i32_603 : BitVec 32) :
    Gst m K c 3 (st3 8 8 7 4) none2 ⊢ run c (on k0_part25 c v2 v5 v6 v7 v8 c2_i32_603) fun _ => Gst m K c 3 (st3 9 8 7 4) none2 := by
  rw [k0_part25_eq_skeleton]; unfold k0_part25_skel
  simp only [on, semSignalWord, semWaitWord, Prog.lift, Prog.bind_op, Prog.bind_ret, Prog.pure_eq_ret]
  exact turn_y m K c (h := 8) (i := 9) rfl (z0 := 512) (z1 := 320) (o0 := 3008) (o1 := 3520) rfl rfl rfl rfl (by revert c; decide) (by revert c; decide) (by revert c; decide) rfl rfl rfl rfl
    (fun v w => add_pay v w _) (by revert c; decide) (by revert c; decide) rfl _

theorem part26 (c : Dev nD) (v2 v5 v6 v7 v8 : BitVec 32) :
    Gst m K c 3 (st3 9 8 7 4) none2 ⊢ run c (on k0_part26 c v2 v5 v6 v7 v8) fun _ => Gst m K c 3 (st3 10 8 7 4) none2 := by
  rw [k0_part26_eq_skeleton]; unfold k0_part26_skel
  simp only [on, semSignalWord, semWaitWord, Prog.lift, Prog.bind_op, Prog.bind_ret, Prog.pure_eq_ret]
  exact turn_y m K c (h := 9) (i := 10) rfl (z0 := 320) (z1 := 128) (o0 := 3520) (o1 := 3840) rfl rfl rfl rfl (by revert c; decide) (by revert c; decide) (by revert c; decide) rfl rfl rfl rfl
    (fun v w => add_pay v w _) (by revert c; decide) (by revert c; decide) rfl _

theorem part27 (c : Dev nD) (v2 v5 v6 v7 v8 : BitVec 32) :
    Gst m K c 3 (st3 10 8 7 4) none2 ⊢ run c (on k0_part27 c v2 v5 v6 v7 v8) fun _ => Gst m K c 3 (st3 11 8 7 4) none2 := by
  rw [k0_part27_eq_skeleton]; unfold k0_part27_skel
  simp only [on, semSignalWord, semWaitWord, Prog.lift, Prog.bind_op, Prog.bind_ret, Prog.pure_eq_ret]
  exact turn_y m K c (h := 10) (i := 11) rfl (z0 := 128) (z1 := 64) (o0 := 3840) (o1 := 3968) rfl rfl rfl rfl (by revert c; decide) (by revert c; decide) (by revert c; decide) rfl rfl rfl rfl
    (fun v w => add_pay v w _) (by revert c; decide) (by revert c; decide) rfl _

theorem part28 (c : Dev nD) (v2 v5 v6 v7 v8 : BitVec 32) :
    Gst m K c 3 (st3 11 8 7 4) none2 ⊢ run c (on k0_part28 c v2 v5 v6 v7 v8) fun _ => Gst m K c 3 (st3 12 8 6 4) none2 := by
  rw [k0_part28_eq_skeleton]; unfold k0_part28_skel
  simp only [on, semSignalWord, semWaitWord, Prog.lift, Prog.bind_op, Prog.bind_ret, Prog.pure_eq_ret]
  refine step_ysend m K c 3 _ _ 11 _ _ (sz := 64) (off := 3968) rfl rfl rfl _ (by revert c; decide) (by revert c; decide) (by revert c; decide) _ _ rfl rfl ?_
  refine step_xrecv m K c 3 _ _ 12 _ _ _ _ _ rfl rfl rfl (by decide) (by decide) ?_
  refine step_add m K c 3 _ _ 12 _ _ (sz := 32) (off := 4032) rfl rfl rfl _ (fun v w => add_pay v w _) ?_
  exact run_end m K c _ (by decide) (by decide)

theorem part29 (c : Dev nD) (v2 v5 v6 v7 v8 : BitVec 32) :
    Gst m K c 3 (st3 12 8 6 4) none2 ⊢ run c (on k0_part29 c v2 v5 v6 v7 v8) fun _ => Gst m K c 3 (st3 13 8 6 4) none2 := by
  rw [k0_part29_eq_skeleton]; unfold k0_part29_skel
  simp only [on, semSignalWord, semWaitWord, Prog.lift, Prog.bind_op, Prog.bind_ret, Prog.pure_eq_ret]
  refine step_out m K c 3 _ _ 12 _ _ (sz := 32) (off := 4032) rfl rfl rfl (by revert c; decide) (by revert c; decide) _ rfl ?_
  refine step_ysend m K c 3 _ _ 12 _ _ (sz := 32) (off := 4032) rfl rfl rfl _ (by revert c; decide) (by revert c; decide) (by revert c; decide) _ _ rfl rfl ?_
  refine step_xrecv m K c 3 _ _ 13 _ _ _ _ _ rfl rfl rfl (by decide) (by decide) ?_
  refine step_add m K c 3 _ _ 13 _ _ (sz := 32) (off := 4064) rfl rfl rfl _ (fun v w => add_pay v w _) ?_
  exact run_end m K c _ (by decide) (by decide)

theorem part30 (c : Dev nD) (v2 v7 : BitVec 32) :
    Gst m K c 3 (st3 13 8 6 4) none2 ⊢ run c (on k0_part30 c v2 v7) fun _ => Gst m K c 3 (st3 0 10 10 8) none2 := by
  rw [k0_part30_eq_skeleton]; unfold k0_part30_skel
  simp only [on, semSignalWord, semWaitWord, Prog.lift, Prog.bind_op, Prog.bind_ret, Prog.pure_eq_ret]
  refine step_out m K c 3 _ _ 13 _ _ (sz := 32) (off := 4064) rfl rfl rfl (by revert c; decide) (by revert c; decide) _ rfl ?_
  refine step_ysend m K c 3 _ _ 13 _ _ (sz := 32) (off := 4064) rfl rfl rfl _ (by revert c; decide) (by revert c; decide) (by revert c; decide) _ _ rfl rfl ?_
  refine step_yrecv m K c 3 _ _ 0 _ _ _ _ _ rfl rfl rfl (by decide) (by decide) ?_
  refine step_owait m K c 3 _ _ 0 _ _ _ _ _ rfl rfl rfl (lv_o c 0) ?_
  exact run_end m K c _ (by decide) (by decide)

theorem part31 (c : Dev nD) (v2 v7 : BitVec 32) :
    Gst m K c 3 (st3 0 10 10 8) none2 ⊢ run c (on k0_part31 c v2 v7) fun _ => Gst m K c 3 (st3 3 10 9 8) none2 := by
  rw [k0_part31_eq_skeleton]; unfold k0_part31_skel
  simp only [on, semSignalWord, semWaitWord, Prog.lift, Prog.bind_op, Prog.bind_ret, Prog.pure_eq_ret]
  refine step_yrecv m K c 3 _ _ 1 _ _ _ _ _ rfl rfl rfl (by decide) (by decide) ?_
  refine step_owait m K c 3 _ _ 1 _ _ _ _ _ rfl rfl rfl (lv_o c 1) ?_
  refine step_yrecv m K c 3 _ _ 2 _ _ _ _ _ rfl rfl rfl (by decide) (by decide) ?_
  refine step_owait m K c 3 _ _ 2 _ _ _ _ _ rfl rfl rfl (lv_o c 2) ?_
  refine step_yrecv m K c 3 _ _ 3 _ _ _ _ _ rfl rfl rfl (by decide) (by decide) ?_
  exact run_end m K c _ (by decide) (by decide)

theorem part32 (c : Dev nD) (v2 v7 : BitVec 32) :
    Gst m K c 3 (st3 3 10 9 8) none2 ⊢ run c (on k0_part32 c v2 v7) fun _ => Gst m K c 3 (st3 5 10 10 8) none2 := by
  rw [k0_part32_eq_skeleton]; unfold k0_part32_skel
  simp only [on, semSignalWord, semWaitWord, Prog.lift, Prog.bind_op, Prog.bind_ret, Prog.pure_eq_ret]
  refine step_owait m K c 3 _ _ 3 _ _ _ _ _ rfl rfl rfl (lv_o c 3) ?_
  refine step_yrecv m K c 3 _ _ 4 _ _ _ _ _ rfl rfl rfl (by decide) (by decide) ?_
  refine step_owait m K c 3 _ _ 4 _ _ _ _ _ rfl rfl rfl (lv_o c 4) ?_
  refine step_yrecv m K c 3 _ _ 5 _ _ _ _ _ rfl rfl rfl (by decide) (by decide) ?_
  refine step_owait m K c 3 _ _ 5 _ _ _ _ _ rfl rfl rfl (lv_o c 5) ?_
  exact run_end m K c _ (by decide) (by decide)

theorem part33 (c : Dev nD) (v2 v7 c2_i32_818 : BitVec 32) :
    Gst m K c 3 (st3 5 10 10 8) none2 ⊢ run c (on k0_part33 c v2 v7 c2_i32_818) fun _ => Gst m K c 3 (st3 7 10 10 8) none2 := by
  rw [k0_part33_eq_skeleton]; unfold k0_part33_skel
  simp only [on, semSignalWord, semWaitWord, Prog.lift, Prog.bind_op, Prog.bind_ret, Prog.pure_eq_ret]
  refine step_yrecv m K c 3 _ _ 6 _ _ _ _ _ rfl rfl rfl (by decide) (by decide) ?_
  refine step_owait m K c 3 _ _ 6 _ _ _ _ _ rfl rfl rfl (lv_o c 6) ?_
  refine step_yrecv m K c 3 _ _ 7 _ _ _ _ _ rfl rfl rfl (by decide) (by decide) ?_
  refine step_owait m K c 3 _ _ 7 _ _ _ _ _ rfl rfl rfl (lv_o c 7) ?_
  exact run_end m K c _ (by decide) (by decide)

theorem part34 (c : Dev nD) (v2 v7 : BitVec 32) :
    Gst m K c 3 (st3 7 10 10 8) none2 ⊢ run c (on k0_part34 c v2 v7) fun _ => Gst m K c 3 (st3 10 10 9 8) none2 := by
  rw [k0_part34_eq_skeleton]; unfold k0_part34_skel
  simp only [on, semSignalWord, semWaitWord, Prog.lift, Prog.bind_op, Prog.bind_ret, Prog.pure_eq_ret]
  refine step_yrecv m K c 3 _ _ 8 _ _ _ _ _ rfl rfl rfl (by decide) (by decide) ?_
  refine step_owait m K c 3 _ _ 8 _ _ _ _ _ rfl rfl rfl (lv_o c 8) ?_
  refine step_yrecv m K c 3 _ _ 9 _ _ _ _ _ rfl rfl rfl (by decide) (by decide) ?_
  refine step_owait m K c 3 _ _ 9 _ _ _ _ _ rfl rfl rfl (lv_o c 9) ?_
  refine step_yrecv m K c 3 _ _ 10 _ _ _ _ _ rfl rfl rfl (by decide) (by decide) ?_
  exact run_end m K c _ (by decide) (by decide)

theorem part35 (c : Dev nD) (v2 v7 : BitVec 32) :
    Gst m K c 3 (st3 10 10 9 8) none2 ⊢ run c (on k0_part35 c v2 v7) fun _ => Gst m K c 3 (st3 12 10 10 8) none2 := by
  rw [k0_part35_eq_skeleton]; unfold k0_part35_skel
  simp only [on, semSignalWord, semWaitWord, Prog.lift, Prog.bind_op, Prog.bind_ret, Prog.pure_eq_ret]
  refine step_owait m K c 3 _ _ 10 _ _ _ _ _ rfl rfl rfl (lv_o c 10) ?_
  refine step_yrecv m K c 3 _ _ 11 _ _ _ _ _ rfl rfl rfl (by decide) (by decide) ?_
  refine step_owait m K c 3 _ _ 11 _ _ _ _ _ rfl rfl rfl (lv_o c 11) ?_
  refine step_yrecv m K c 3 _ _ 12 _ _ _ _ _ rfl rfl rfl (by decide) (by decide) ?_
  refine step_owait m K c 3 _ _ 12 _ _ _ _ _ rfl rfl rfl (lv_o c 12) ?_
  exact run_end m K c _ (by decide) (by decide)

theorem part36 (c : Dev nD) (v2 v7 : BitVec 32) :
    Gst m K c 3 (st3 12 10 10 8) none2 ⊢ run c (on k0_part36 c v2 v7) fun _ => Gst m K c 3 (st3 1 12 11 10) none2 := by
  rw [k0_part36_eq_skeleton]; unfold k0_part36_skel
  simp only [on, semSignalWord, semWaitWord, Prog.lift, Prog.bind_op, Prog.bind_ret, Prog.pure_eq_ret]
  refine step_yrecv m K c 3 _ _ 13 _ _ _ _ _ rfl rfl rfl (by decide) (by decide) ?_
  refine step_owait m K c 3 _ _ 13 _ _ _ _ _ rfl rfl rfl (lv_o c 13) ?_
  refine step_xs m K c 3 _ _ 0 _ _ _ _ _ rfl rfl rfl ?_
  refine step_ys m K c 3 _ _ 0 _ _ _ _ _ rfl rfl rfl ?_
  refine step_xs m K c 3 _ _ 1 _ _ _ _ _ rfl rfl rfl ?_
  exact run_end m K c _ (by decide) (by decide)

theorem part37 (c : Dev nD) :
    Gst m K c 3 (st3 1 12 11 10) none2 ⊢ run c (on k0_part37 c) fun _ => Gst m K c 3 (st3 3 12 12 10) none2 := by
  rw [k0_part37_eq_skeleton]; unfold k0_part37_skel
  simp only [on, semSignalWord, semWaitWord, Prog.lift, Prog.bind_op, Prog.bind_ret, Prog.pure_eq_ret]
  refine step_ys m K c 3 _ _ 1 _ _ _ _ _ rfl rfl rfl ?_
  refine step_xs m K c 3 _ _ 2 _ _ _ _ _ rfl rfl rfl ?_
  refine step_ys m K c 3 _ _ 2 _ _ _ _ _ rfl rfl rfl ?_
  refine step_xs m K c 3 _ _ 3 _ _ _ _ _ rfl rfl rfl ?_
  refine step_ys m K c 3 _ _ 3 _ _ _ _ _ rfl rfl rfl ?_
  exact run_end m K c _ (by decide) (by decide)

theorem part38 (c : Dev nD) :
    Gst m K c 3 (st3 3 12 12 10) none2 ⊢ run c (on k0_part38 c) fun _ => Gst m K c 3 (st3 6 12 11 10) none2 := by
  rw [k0_part38_eq_skeleton]; unfold k0_part38_skel
  simp only [on, semSignalWord, semWaitWord, Prog.lift, Prog.bind_op, Prog.bind_ret, Prog.pure_eq_ret]
  refine step_xs m K c 3 _ _ 4 _ _ _ _ _ rfl rfl rfl ?_
  refine step_ys m K c 3 _ _ 4 _ _ _ _ _ rfl rfl rfl ?_
  refine step_xs m K c 3 _ _ 5 _ _ _ _ _ rfl rfl rfl ?_
  refine step_ys m K c 3 _ _ 5 _ _ _ _ _ rfl rfl rfl ?_
  refine step_xs m K c 3 _ _ 6 _ _ _ _ _ rfl rfl rfl ?_
  exact run_end m K c _ (by decide) (by decide)

theorem part39 (c : Dev nD) :
    Gst m K c 3 (st3 6 12 11 10) none2 ⊢ run c (on k0_part39 c) fun _ => Gst m K c 3 (st3 8 12 12 10) none2 := by
  rw [k0_part39_eq_skeleton]; unfold k0_part39_skel
  simp only [on, semSignalWord, semWaitWord, Prog.lift, Prog.bind_op, Prog.bind_ret, Prog.pure_eq_ret]
  refine step_ys m K c 3 _ _ 6 _ _ _ _ _ rfl rfl rfl ?_
  refine step_xs m K c 3 _ _ 7 _ _ _ _ _ rfl rfl rfl ?_
  refine step_ys m K c 3 _ _ 7 _ _ _ _ _ rfl rfl rfl ?_
  refine step_xs m K c 3 _ _ 8 _ _ _ _ _ rfl rfl rfl ?_
  refine step_ys m K c 3 _ _ 8 _ _ _ _ _ rfl rfl rfl ?_
  exact run_end m K c _ (by decide) (by decide)

theorem part40 (c : Dev nD) :
    Gst m K c 3 (st3 8 12 12 10) none2 ⊢ run c (on k0_part40 c) fun _ => Gst m K c 3 (st3 11 12 11 10) none2 := by
  rw [k0_part40_eq_skeleton]; unfold k0_part40_skel
  simp only [on, semSignalWord, semWaitWord, Prog.lift, Prog.bind_op, Prog.bind_ret, Prog.pure_eq_ret]
  refine step_xs m K c 3 _ _ 9 _ _ _ _ _ rfl rfl rfl ?_
  refine step_ys m K c 3 _ _ 9 _ _ _ _ _ rfl rfl rfl ?_
  refine step_xs m K c 3 _ _ 10 _ _ _ _ _ rfl rfl rfl ?_
  refine step_ys m K c 3 _ _ 10 _ _ _ _ _ rfl rfl rfl ?_
  refine step_xs m K c 3 _ _ 11 _ _ _ _ _ rfl rfl rfl ?_
  exact run_end m K c _ (by decide) (by decide)

/-- All pieces in a row, and the first of the last waits. -/
theorem part41 (c : Dev nD) {α : Type} (k : Dev nD → Pr F α) (Q : α → sProp 𝕄)
    (h : Gst m K c 3 (st3 12 12 11 10) none2 ⊢ run c (k c) Q) : Gst m K c 0 (st3 0 0 0 0) none2 ⊢ run c (on k0_part41 >>= k) Q := by
  rw [k0_part41_eq_skeleton]; unfold k0_part41_skel
  simp only [on, Prog.bind_assoc]
  refine part1 m K c _ _ fun v5 v6 v7 v8 => ?_
  refine run_seq c _ _ _ (part2 m K c _ _ _ _ rfl) fun _ => ?_
  refine run_seq c _ _ _ (part3 m K c _ _ _ _ rfl) fun _ => ?_
  refine run_seq c _ _ _ (part4 m K c _ _ _ _ rfl) fun _ => ?_
  refine run_seq c _ _ _ (part5 m K c _ _ _ _ rfl) fun _ => ?_
  refine run_seq c _ _ _ (part6 m K c _ _ _ _ rfl) fun _ => ?_
  refine run_seq c _ _ _ (part7 m K c _ _ _ _ rfl) fun _ => ?_
  refine run_seq c _ _ _ (part8 m K c _ _ _ _ rfl) fun _ => ?_
  refine run_seq c _ _ _ (part9 m K c _ _ _ _ rfl) fun _ => ?_
  refine run_seq c _ _ _ (part10 m K c _ _ _ _ rfl) fun _ => ?_
  refine run_seq c _ _ _ (part11 m K c _ _ _ _ _ rfl) fun _ => ?_
  refine run_seq c _ _ _ (part12 m K c _ _ _ _ _ rfl) fun _ => ?_
  refine run_seq c _ _ _ (part13 m K c _ _ _ _ rfl) fun _ => ?_
  refine run_seq c _ _ _ (part14 m K c _ _ _ _ rfl) fun _ => ?_
  refine run_seq c _ _ _ (part15 m K c _ _ _ _ rfl) fun _ => ?_
  refine run_seq c _ _ _ (part16 m K c _ _ _ _ _) fun _ => ?_
  refine run_seq c _ _ _ (part17 m K c _ _ _ _ _) fun _ => ?_
  refine run_seq c _ _ _ (part18 m K c _ _ _ _ _) fun _ => ?_
  refine run_seq c _ _ _ (part19 m K c _ _ _ _ _) fun _ => ?_
  refine run_seq c _ _ _ (part20 m K c _ _ _ _ _ _) fun _ => ?_
  refine run_seq c _ _ _ (part21 m K c _ _ _ _ _ _ _) fun _ => ?_
  refine run_seq c _ _ _ (part22 m K c _ _ _ _ _ _) fun _ => ?_
  refine run_seq c _ _ _ (part23 m K c _ _ _ _ _ _ _) fun _ => ?_
  refine run_seq c _ _ _ (part24 m K c _ _ _ _ _) fun _ => ?_
  refine run_seq c _ _ _ (part25 m K c _ _ _ _ _ _) fun _ => ?_
  refine run_seq c _ _ _ (part26 m K c _ _ _ _ _) fun _ => ?_
  refine run_seq c _ _ _ (part27 m K c _ _ _ _ _) fun _ => ?_
  refine run_seq c _ _ _ (part28 m K c _ _ _ _ _) fun _ => ?_
  refine run_seq c _ _ _ (part29 m K c _ _ _ _ _) fun _ => ?_
  refine run_seq c _ _ _ (part30 m K c _ _) fun _ => ?_
  refine run_seq c _ _ _ (part31 m K c _ _) fun _ => ?_
  refine run_seq c _ _ _ (part32 m K c _ _) fun _ => ?_
  refine run_seq c _ _ _ (part33 m K c _ _ _) fun _ => ?_
  refine run_seq c _ _ _ (part34 m K c _ _) fun _ => ?_
  refine run_seq c _ _ _ (part35 m K c _ _) fun _ => ?_
  refine run_seq c _ _ _ (part36 m K c _ _) fun _ => ?_
  refine run_seq c _ _ _ (part37 m K c) fun _ => ?_
  refine run_seq c _ _ _ (part38 m K c) fun _ => ?_
  refine run_seq c _ _ _ (part39 m K c) fun _ => ?_
  refine run_seq c _ _ _ (part40 m K c) fun _ => ?_
  simp only [Prog.lift, Prog.bind_op, Prog.bind_ret, Prog.pure_eq_ret]
  refine step_ys m K c 3 _ _ 11 _ _ _ _ _ rfl rfl rfl ?_
  refine step_xs m K c 3 _ _ 12 _ _ _ _ _ rfl rfl rfl ?_
  rw [show upd (upd (st3 11 12 11 10) 11 12) 12 11 = st3 12 12 11 10 from funext (by decide)]
  exact h

/-- The kernel on one device: from the first state to the last. -/
theorem body_run (c : Dev nD) : Gst m K c 0 (st3 0 0 0 0) none2 ⊢ run c (on (cc0_body (F := F))) fun _ => Gst m K c 3 (st3 13 12 12 12) none2 := by
  rw [cc0_body_eq_skeleton]; unfold cc0_body_skel
  refine part41 m K c _ _ ?_
  simp only [Prog.lift, Prog.bind_op, Prog.bind_ret, Prog.pure_eq_ret]
  refine step_ys m K c 3 _ _ 12 _ _ _ _ _ rfl rfl rfl ?_
  refine step_xs m K c 3 _ _ 13 _ _ _ _ _ rfl rfl rfl ?_
  refine step_ys m K c 3 _ _ 13 _ _ _ _ _ rfl rfl rfl ?_
  exact run_end m K c _ (by decide) (by decide)

end Cert.KernelIdealProof
-- ==== Proof.MintIdeal.lean ====
/-
# What the launch deals

The cells of the protocol (one barrier and 56 copy semaphores a device) with their duty tokens, made at the launch: the
invariants of all devices' cells in one step, each token to the device that pays with it, and the credits for what the
devices owe each other at the start.
-/
module

public import proofs.«01_k».proof.Proof.TurnsIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens -/

abbrev csem : CI → SemLoc sig := fun | none => .reg barS | some (k, i) => .dma (dS k i)

theorem kcell_eq (p : Dev nD × CI) : kcell p = ((p.1 : Thread nD τ), csem p.2) := by
  rcases p with ⟨c, _ | ⟨k, i⟩⟩ <;> rfl

theorem dS_inj {k k' : Fin 4} {i i' : Fin 14} (h : dS k i = dS k' i') : k = k' ∧ i = i' := by
  have h1 : kOf (dS k i) = kOf (dS k' i') := by rw [h]
  have h2 : iOf (dS k i) = iOf (dS k' i') := by rw [h]
  rw [kOf_dS, kOf_dS] at h1
  rw [iOf_dS, iOf_dS] at h2
  exact ⟨Fin.ext h1, h2⟩

theorem csem_injective : Function.Injective csem := by
  rintro (_ | ⟨k, i⟩) (_ | ⟨k', i'⟩) h
  · rfl
  · exact absurd h fun h' => by cases h'
  · exact absurd h fun h' => by cases h'
  · obtain ⟨rfl, rfl⟩ := dS_inj (SemLoc.dma.inj h); rfl

theorem kcell_injective : Function.Injective (kcell : Dev nD × CI → GSem nD τ sig) := by
  rintro ⟨c, x⟩ ⟨c', x'⟩ h
  rw [kcell_eq, kcell_eq] at h
  have h1 : c = c' := congrArg (fun g : GSem nD τ sig => g.1.1) h
  have h2 : x = x' := csem_injective (congrArg Prod.snd h)
  rw [h1, h2]

def allCells : Finset (GSem nD τ sig) := Finset.univ.map ⟨kcell, kcell_injective⟩

/-- A device's own cells' duties: two of the barrier, one of every copy semaphore. -/
abbrev TI : Type := Bool ⊕ (Fin 4 × Fin 14)
abbrev tokOf (p : Dev nD × TI) : GSem nD τ sig × ℕ × Bool := match p.2 with
  | .inl d => (barCell p.1, 0, d) | .inr (k, i) => (dCell p.1 k i, 0, false)

theorem tokOf_injective : Function.Injective (tokOf : Dev nD × TI → GSem nD τ sig × ℕ × Bool) := by
  rintro ⟨c, d | ⟨k, i⟩⟩ ⟨c', d' | ⟨k', i'⟩⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h) fun h' => by cases h'
  · exact absurd (congrArg (fun x : GSem nD τ sig × ℕ × Bool => x.1.2) h) fun h' => by cases h'
  · have h1 : c = c' := congrArg (fun x : GSem nD τ sig × ℕ × Bool => x.1.1.1) h
    obtain ⟨rfl, rfl⟩ := dS_inj (SemLoc.dma.inj (congrArg (fun x : GSem nD τ sig × ℕ × Bool => x.1.2) h))
    rw [h1]

def allToks : Finset (GSem nD τ sig × ℕ × Bool) := Finset.univ.map ⟨tokOf, tokOf_injective⟩

/-- The ghost state at the launch: the launch's own, the protocol's, and the unit of the local flights'. -/
def u₀ : UU := (initOf (Pipeline.cells cfgs cellOf_inj) (Pipeline.launchToks cfgs cellOf_inj), (initOf allCells allToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## Families over a device's cells -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_CI (Φ : CI → sProp 𝕄) : bigSep Finset.univ Φ = iprop(Φ none
    ∗ (bigSep Finset.univ fun i => Φ (some (0, i))) ∗ (bigSep Finset.univ fun i => Φ (some (1, i)))
    ∗ (bigSep Finset.univ fun i => Φ (some (2, i))) ∗ (bigSep Finset.univ fun i => Φ (some (3, i)))) := by
  rw [bigSep_univ_at _ none, show (Finset.univ : Finset CI).erase none = Finset.univ.map Function.Embedding.some from by
      ext x; rcases x with _ | y <;> simp, bigSep_map, bigSep_univ_prod, bigSep_fin4]
  rfl

/-- The duty tokens of device `c`'s own cells. -/
def toks (c : Dev nD) : sProp 𝕄 :=
  iprop((dutyTok ER (barCell c) 0 false ∗ dutyTok ER (barCell c) 0 true)
    ∗ (bigSep Finset.univ fun i => dutyTok ER (dCell c 0 i) 0 false) ∗ (bigSep Finset.univ fun i => dutyTok ER (dCell c 1 i) 0 false)
    ∗ (bigSep Finset.univ fun i => dutyTok ER (dCell c 2 i) 0 false) ∗ (bigSep Finset.univ fun i => dutyTok ER (dCell c 3 i) 0 false))

/-- What the launch element deals device `c`. -/
def G (c : Dev nD) : sProp 𝕄 :=
  iprop((bigSep Finset.univ fun x : CI => roundState ER (Rd m) (kcell (c, x)) 0)
    ∗ (bigSep Finset.univ fun x : CI => iprop(atPos ER (kcell (c, x)) 0 ∅ 0 ∗ reached ER (kcell (c, x)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CI => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_eq_bigSepL [false, true] (by decide) (by decide), bigSepL_cons_cons, bigSepL_singleton,
      bigSep_univ_prod, bigSep_fin4]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the staging slots', the local copies', the remote copies'. -/
abbrev OI : Type := (Fin 2 ⊕ Fin 14) ⊕ (Fin 4 × Fin 14)
def osem : OI → SemLoc sig
  | .inl (.inl s) => .dma (iS s) | .inl (.inr i) => .dma (oS i) | .inr (k, i) => .dma (dS k i)

theorem osem_injective : Function.Injective osem := by
  have h0 : ∀ x y : DmaSem sig, SemLoc.dma (sig := sig) x = .dma y → (show Fin 72 from x).val = (show Fin 72 from y).val :=
    fun x y h => congrArg (fun z : DmaSem sig => (show Fin 72 from z).val) (SemLoc.dma.inj h)
  rintro ((s | i) | ⟨k, i⟩) ((s' | i') | ⟨k', i'⟩) h <;> have h1 := h0 _ _ h <;> simp only [iS, oS, dS] at h1
  · rw [Fin.ext h1]
  · have := s.isLt; omega
  · have := s.isLt; omega
  · have := s'.isLt; omega
  · have h2 : i = i' := Fin.ext (by omega)
    rw [h2]
  · have := i.isLt; omega
  · have := s'.isLt; omega
  · have := i'.isLt; omega
  · obtain ⟨rfl, rfl⟩ := dS_inj (SemLoc.dma.inj h); rfl

theorem ownSemFacts : Pipeline.OwnSemFacts cfg0.spec osem := ⟨by decide, osem_injective, fun _ w => w.elim0⟩

/-- The semaphores that carry no protocol, at rest. -/
def idle (c : Dev nD) : sProp 𝕄 := iprop((bigSep Finset.univ fun s => zi c s) ∗ (bigSep Finset.univ fun i => zo c i))
/-- The others at zero. -/
def rest0 (c : Dev nD) : sProp 𝕄 := bigSep Finset.univ fun x : Fin 4 × Fin 14 => zd c x.1 x.2

omit [FloatOps F] in
theorem ownSems0_eq (c : Dev nD) : (Pipeline.ownSems0 (Ix := Unit) (Name := ℕ) (U := UU) (Lvl := ℕ) (Val := Elt F) (τ := τ) osem c : sProp 𝕄)
    = iprop(idle c ∗ rest0 c) := by
  unfold Pipeline.ownSems0 idle rest0
  rw [bigSep_univ_sum, bigSep_univ_sum]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) : iprop(rest0 c ∗ semVal (barCell c) 0) ⊢ (bigSep Finset.univ fun x : CI => semVal (kcell (c, x)) 0 : sProp 𝕄) := by
  rw [bigSep_CI]; unfold rest0 zd; rw [bigSep_univ_prod, bigSep_fin4]
  refine (show _ ⊢ _ from ?_)
  iintro ⟨H, HB⟩
  isplitl [HB]; · iexact HB
  iexact H

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd m) κ (kcell (c, x))))
          ∗ (bigSep Finset.univ fun x => iprop(atPos ER (kcell (c, x)) 0 ∅ 0 ∗ reached ER (kcell (c, x)) 0)) ∗ toks c ∗ idle c) := by
  unfold G
  rw [ownSems0_eq, unscopedSems0_eq]
  iintro ⟨⟨Hid, Hos⟩, Hus, Hst, Hat, Htok⟩
  ihave Hv := (sems_eq (F := F) c) $$ [Hos Hus]
  · isplitl [Hos] <;> iassumption
  imod (show iprop((bigSep Finset.univ fun x : CI => semVal (kcell (c, x)) 0) ∗ bigSep Finset.univ fun x : CI => roundState ER (Rd m) (kcell (c, x)) 0)
      ⊢ (|={Set.univ}=> bigSep Finset.univ fun x => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hid

/-- The tokens device `c` pays with. -/
def payToks (c : Dev nD) : sProp 𝕄 :=
  iprop((dutyTok ER (barCell (pX c)) 0 false ∗ dutyTok ER (barCell (pY c)) 0 true)
    ∗ (bigSep Finset.univ fun i => tX c i) ∗ (bigSep Finset.univ fun i => tY c i))

/-- What stays with device `c` alone. -/
def linear (c : Dev nD) : sProp 𝕄 :=
  iprop((bigSep Finset.univ fun x : CI => atPos ER (kcell (c, x)) 0 ∅ 0) ∗ payToks c ∗ idle c)

/-- What the launch leaves with device `c`. -/
def G' (c : Dev nD) : sProp 𝕄 := iprop(∃ K, records m K ∗ linear c)

omit [FloatOps F] in
/-- Every token goes to the device that pays with it. -/
theorem toks_around : (bigSep Finset.univ fun c : Dev nD => (toks c : sProp 𝕄)) ⊢ bigSep Finset.univ fun c : Dev nD => payToks c := by
  unfold toks payToks tX tY
  simp only [bigSep_sep']
  rw [bigSep_univ_equiv ringX (fun c : Dev nD => (dutyTok ER (barCell c) 0 false : sProp 𝕄)),
    bigSep_univ_equiv ringY (fun c : Dev nD => (dutyTok ER (barCell c) 0 true : sProp 𝕄)),
    bigSep_univ_equiv ringX (fun c : Dev nD => (bigSep Finset.univ fun i => dutyTok ER (dCell c 1 i) 0 false : sProp 𝕄)),
    bigSep_univ_equiv ringY (fun c : Dev nD => (bigSep Finset.univ fun i => dutyTok ER (dCell c 3 i) 0 false : sProp 𝕄))]
  refine (show _ ⊢ _ from ?_)
  iintro ⟨⟨H1, H2⟩, H3, H4, H5, H6⟩
  isplitl [H1 H2]
  · isplitl [H1]; · iexact H1
    iexact H2
  isplitl [H3 H4]
  · isplitl [H3]; · iexact H3
    iexact H4
  isplitl [H5]; · iexact H5
  iexact H6

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CI => iprop(∃ κ : ℕ, cellInv ER (Rd m) κ (kcell (c, x))))
          ∗ (bigSep Finset.univ fun x : CI => iprop(atPos ER (kcell (c, x)) 0 ∅ 0 ∗ reached ER (kcell (c, x)) 0)) ∗ toks c ∗ idle c) : sProp 𝕄)
      ⊢ bigSep Finset.univ (G' m) := by
  rw [bigSep_sep', bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun p : Dev nD × CI => (reached ER (kcell p) 0 : sProp 𝕄))]
  iintro ⟨HI, ⟨Hat, #HR⟩, Htok, Hid⟩
  ihave HK := (BI.bigSep_exists_pi Finset.univ (fun (p : Dev nD × CI) (κ : ℕ) => (cellInv ER (Rd m) κ (kcell p) : sProp 𝕄))) $$ HI
  icases HK with ⟨%K, #HI⟩
  ihave Htk := (toks_around (F := F)) $$ Htok
  iapply (bigSep_with (R := records m K) (Φ := linear) fun c _ => (show iprop(records m K ∗ linear c) ⊢ G' m c from by
    unfold G'; iintro H; iexists K; iexact H))
  isplitr
  · unfold records; rw [bigSep_sep']; isplitl; · iexact HI
    iexact HR
  · unfold linear; rw [bigSep_sep', bigSep_sep']
    isplitl [Hat]; · iexact Hat
    isplitl [Htk]; · iexact Htk
    iexact Hid

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What is owed at the start. -/
abbrev O₀ (c : Dev nD) : CellTallies nD τ sig Unit := ow c 0 (fun _ => 0)

/-- The units owed to a cell. -/
def units : CI → ℕ
  | none => 2 | some (k, i) => if k = 1 ∨ k = 3 then NN i else 0

theorem tallyAt_kcell (p q : Dev nD × CI) (n : ℕ) : (tallyAt (kcell p) () n : CellTallies nD τ sig Unit) (kcell q) () = if q = p then n else 0 := by
  rw [tallyAt_apply]
  by_cases h : q = p
  · rw [if_pos h, if_pos ⟨by rw [h], rfl⟩]
  · rw [if_neg h, if_neg fun h' => h (kcell_injective h'.1)]

theorem start_sum (f : Fin 14 → Dev nD × CI) (q : Dev nD × CI) :
    (∑ j, if (fun _ => 0 : Fin 14 → ℕ) j < 4 then tallyAt (kcell (f j)) () (NN j) else (0 : CellTallies nD τ sig Unit)) (kcell q) () = ∑ j, if q = f j then NN j else 0 := by
  rw [Finset.sum_apply, Finsupp.finset_sum_apply]
  refine Finset.sum_congr rfl fun j _ => ?_
  rw [if_pos (show (0 : ℕ) < 4 by decide), tallyAt_kcell]

theorem start_sum' (f : Fin 14 → Dev nD × CI) (q : Dev nD × CI) :
    (∑ j, if (fun _ => 0 : Fin 14 → ℕ) j < 8 then tallyAt (kcell (f j)) () (NN j) else (0 : CellTallies nD τ sig Unit)) (kcell q) () = ∑ j, if q = f j then NN j else 0 := by
  rw [Finset.sum_apply, Finsupp.finset_sum_apply]
  refine Finset.sum_congr rfl fun j _ => ?_
  rw [if_pos (show (0 : ℕ) < 8 by decide), tallyAt_kcell]

theorem owed_at (d : Dev nD) (q : Dev nD × CI) : O₀ d (kcell q) () = (∑ j, if q = (ringX d, some (1, j)) then NN j else 0)
    + (∑ j, if q = (ringY d, some (3, j)) then NN j else 0) + (if q = (ringY d, none) then 1 else 0) + (if q = (ringX d, none) then 1 else 0) := by
  have h1 := start_sum (fun j => (pX d, some (1, j))) q
  have h2 := start_sum' (fun j => (pY d, some (3, j))) q
  have h3 := tallyAt_kcell (pY d, none) q 1
  have h4 := tallyAt_kcell (pX d, none) q 1
  unfold O₀ ow
  rw [if_pos (show 0 < 2 by decide), if_pos (show 0 < 1 by decide), Pi.add_apply, Finsupp.add_apply, Pi.add_apply, Finsupp.add_apply, Pi.add_apply, Finsupp.add_apply]
  exact congrArg₂ (· + ·) (congrArg₂ (· + ·) (congrArg₂ (· + ·) h1 h2) h3) h4

theorem owed_total (c : Dev nD) (x : CI) : ∑ d : Dev nD, O₀ d (kcell (c, x)) () = units x := by
  rw [Finset.sum_congr rfl fun d _ => owed_at d (c, x), Finset.sum_add_distrib, Finset.sum_add_distrib, Finset.sum_add_distrib,
    Equiv.sum_comp ringX (fun d => ∑ j, if (c, x) = (d, (some (1, j) : CI)) then NN j else 0),
    Equiv.sum_comp ringY (fun d => ∑ j, if (c, x) = (d, (some (3, j) : CI)) then NN j else 0),
    Equiv.sum_comp ringY (fun d => if (c, x) = (d, (none : CI)) then 1 else 0),
    Equiv.sum_comp ringX (fun d => if (c, x) = (d, (none : CI)) then 1 else 0)]
  rcases x with _ | ⟨k, i⟩
  · simp [units, Prod.mk.injEq]
  · fin_cases k <;> simp [units, Prod.mk.injEq, ite_and]

theorem launch_at (c : Dev nD) (x : CI) :
    tallyOn (kcell (c, x)) (launchCredit (Pipeline.owing O₀) 0 (kcell (c, x))) = (tallyAt (kcell (c, x)) () (units x) : CellTallies nD τ sig Unit) := by
  unfold tallyAt; refine congrArg _ (Finsupp.ext fun u => ?_); cases u
  rw [Pipeline.launchCredit_owing, Finsupp.single_eq_same, owed_total]

omit [FloatOps F] in
theorem creds (c : Dev nD) : (Pipeline.launchCred O₀ c : sProp 𝕄) ⊢ iprop(cred (tallyAt (barCell c) () 2)
    ∗ (bigSep Finset.univ fun i => cred (tallyAt (dCell c 1 i) () (NN i))) ∗ (bigSep Finset.univ fun i => cred (tallyAt (dCell c 3 i) () (NN i)))) := by
  have h : (Pipeline.launchCred O₀ c : sProp 𝕄) ⊢ bigSep Finset.univ fun x : CI => cred (tallyAt (kcell (c, x)) () (units x)) := by
    unfold Pipeline.launchCred
    refine (bigSep_subset (Finset.subset_univ (Finset.univ.map ⟨csem, csem_injective⟩))).trans ?_
    rw [bigSep_map]
    refine bigSep_mono fun x _ => ?_
    rw [← launch_at, kcell_eq]; exact .refl _
  refine h.trans ?_
  rw [bigSep_CI]
  refine (show _ ⊢ _ from ?_)
  iintro ⟨H, -, H1, -, H3⟩
  isplitl [H]; · iexact H
  isplitl [H1]; · iexact H1
  iexact H3

end Cert.KernelIdealProof
-- ==== Proof.LaunchIdeal.lean ====
/-
# The launch: the kernel on all four devices

From the launch's holdings each device reaches the first state, the kernel's run takes it to the last one, and there it
gives back its scratch and its semaphores at zero and keeps its block of the argument, unchanged, and the whole result.
-/
module

public import proofs.«01_k».proof.Proof.BodyIdeal
public import proofs.«01_k».proof.Proof.MintIdeal
public import Idealize.ShloMosaic.Lib.Ring
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers in pieces -/

omit [FloatOps F] in
theorem share2 {ℓ : Loc nD τ sig} {I : Finset (Idx ℓ)} {f : Buf (Elt F) ℓ} : (ℓ ↦[I]{fullShare} f : sProp 𝕄) ⊣⊢ iprop((ℓ ↦[I]{qA} f) ∗ ℓ ↦[I]{qB} f) :=
  pointsTo_share (PosShare.mem_left_op_right fullShare)

theorem all_rows : (Finset.univ.biUnion chS) = Finset.univ := (chunks_cover 4096 0).trans rows_univ

theorem chS_disjoint (i j : Fin 14) (h : i ≠ j) : Disjoint (chS i) (chS j) := chunks_disjoint 4096 0 i j h

theorem slots_cover : (Finset.univ.biUnion slotS) = Finset.univ := by
  ext x
  simp only [Finset.mem_biUnion, Finset.mem_univ, true_and, iff_true]
  exact ⟨x 0, mem_slotS.mpr rfl⟩

theorem slots_disjoint (s t : Fin 2) (h : s ≠ t) : Disjoint (slotS s) (slotS t) := by
  rw [Finset.disjoint_left]; intro x hx hx'
  rw [mem_slotS] at hx hx'; exact h (Fin.ext (hx.symm.trans hx'))

theorem halves_compl (b : ℕ) (hb : b < 2) : (Finset.univ : Finset S8192x1024.Idx) \ halfS b = halfS (1 - b) := by
  ext x
  have h0 : (x 0).val < 8192 := (x 0).isLt
  rw [Finset.mem_sdiff, mem_rows, mem_rows]
  simp only [Finset.mem_univ, true_and]
  omega

theorem uAny_intro (c : Dev nD) (f : Buf (Elt F) (uL c)) : ((uL c) ↦{fullShare} f : sProp 𝕄) ⊢ bigSep Finset.univ fun i => uAny c i := by
  rw [← all_rows, pointsTo_biUnion Finset.univ _ (fun i _ j _ hij => chS_disjoint i j hij)]
  exact bigSep_mono fun i _ => (show ((uL c) ↦[chS i]{fullShare} f : sProp 𝕄) ⊢ uAny c i by
    unfold uAny; iintro H; iexists f; iexact H)

theorem sAny_intro (c : Dev nD) (f : Buf (Elt F) (sL c)) : ((sL c) ↦{fullShare} f : sProp 𝕄) ⊢ bigSep Finset.univ fun i => sAny c i := by
  rw [← all_rows, pointsTo_biUnion Finset.univ _ (fun i _ j _ hij => chS_disjoint i j hij)]
  exact bigSep_mono fun i _ => (show ((sL c) ↦[chS i]{fullShare} f : sProp 𝕄) ⊢ sAny c i by
    unfold sAny; iintro H; iexists f; iexact H)

theorem fAny_intro (c : Dev nD) (f : Buf (Elt F) (fL c)) :
    ((fL c) ↦{fullShare} f : sProp 𝕄) ⊢ bigSep Finset.univ fun s => iprop(∃ f : Buf (Elt F) (fL c), (fL c) ↦[slotS s]{fullShare} f) := by
  rw [← slots_cover, pointsTo_biUnion Finset.univ _ (fun i _ j _ hij => slots_disjoint i j hij)]
  exact bigSep_mono fun i _ => (show ((fL c) ↦[slotS i]{fullShare} f : sProp 𝕄) ⊢ iprop(∃ f : Buf (Elt F) (fL c), (fL c) ↦[slotS i]{fullShare} f) by
    iintro H; iexists f; iexact H)

theorem out_split (c : Dev nD) (b : ℕ) (hb : b < 2) (f : Buf (Elt F) (oL c)) :
    ((oL c) ↦{fullShare} f : sProp 𝕄) ⊣⊢ iprop(((oL c) ↦[halfS b]{fullShare} f) ∗ ((oL c) ↦[halfS (1 - b)]{fullShare} f)) := by
  have h := pointsTo_split_subset (nD := nD) (τ := τ) (Ix := Unit) (Name := ℕ) (U := UU) (Lvl := ℕ) (Val := Elt F) (ℓ := oL c) (q := fullShare) (f := f) (Finset.subset_univ (halfS b))
  rw [halves_compl b hb] at h
  exact h

/-! ## The two ends of the run -/

/-- The scratch buffers, at some contents. -/
def scr (c : Dev nD) : sProp 𝕄 := iprop((∃ f : Buf (Elt F) (fL c), (fL c) ↦{fullShare} f) ∗ (∃ f : Buf (Elt F) (sL c), (sL c) ↦{fullShare} f)
  ∗ (∃ f : Buf (Elt F) (vL c), (vL c) ↦{fullShare} f) ∗ (∃ f : Buf (Elt F) (uL c), (uL c) ↦{fullShare} f))

/-- What the launch leaves with a device, scratch apart. -/
def start (c : Dev nD) : sProp 𝕄 :=
  iprop(G' m c ∗ levAts L lv
    ∗ (cred (tallyAt (barCell c) () 2) ∗ (bigSep Finset.univ fun i => cred (tallyAt (dCell c 1 i) () (NN i))) ∗ (bigSep Finset.univ fun i => cred (tallyAt (dCell c 3 i) () (NN i))))
    ∗ ((xL c) ↦{fullShare} X m c) ∗ (∃ f : Buf (Elt F) (oL c), (oL c) ↦{fullShare} f))

def Φ₀ (c : Dev nD) : sProp 𝕄 := iprop(start m c ∗ scr c)

/-- The end: the scratch and the semaphores to give back, the argument unchanged, the result. -/
def Φ₁ (c : Dev nD) : sProp 𝕄 :=
  iprop((((xL c) ↦{fullShare} X m c) ∗ ((oL c) ↦{fullShare} outV m c)) ∗ semVal (barCell c) 0 ∗ (idle c ∗ rest0 c) ∗ scr c)

theorem first_state (c : Dev nD) (W) : iprop(Φ₀ m c ∗ owes (c : Thread nD τ) (O₀ c) W) ⊢ iprop(∃ K, Gst m K c 0 (st3 0 0 0 0) none2) := by
  unfold Φ₀ start scr G' linear payToks idle
  rw [bigSep_CI]
  iintro ⟨⟨⟨⟨%K, #HR, ⟨HaB, Ha0, Ha1, Ha2, Ha3⟩, ⟨⟨HtB, HtB'⟩, HtX, HtY⟩, Hzi, Hzo⟩, #HL, ⟨HcB, Hc1, Hc3⟩, Hx, ⟨%fo, Ho⟩⟩, ⟨%ff, Hf⟩, ⟨%fs, Hs⟩, ⟨%fv, Hv⟩, ⟨%fu, Hu⟩⟩, HO⟩
  iexists K
  unfold Gst
  ihave Hs := (sAny_intro c fs) $$ Hs
  ihave Hu := (uAny_intro c fu) $$ Hu
  ihave Hf := (fAny_intro c ff) $$ Hf
  ihave Ho := (out_split c (my c) (my_lt c) fo).1 $$ Ho
  icases Ho with ⟨Ho, Ho'⟩
  ihave Ho := (oAny_intro c (my c) fo) $$ Ho
  ihave Hx := (share2).1 $$ Hx
  icases Hx with ⟨HxA, HxB⟩
  isplitr
  · isplitr; · iexact HR
    iexact HL
  isplitl [HO]
  · iexists W; rw [show st3 0 0 0 0 = fun _ => 0 from funext (by decide)]; iexact HO
  isplitl [HaB HcB HtB HtB' Ho' Hv]
  · rw [BarSt_0]
    isplitl [HaB]; · iexact HaB
    isplitl [HcB]; · iexact HcB
    isplitl [HtB' Ho']
    · isplitl [HtB']; · iexact HtB'
      iexists fo; iexact Ho'
    isplitl [HtB]; · iexact HtB
    iexists fv; iexact Hv
  isplitl [Ha0 Ha1 Ha2 Ha3 HtX HtY Hzo Hc1 Hc3 Ho Hs Hu]
  · rw [bigSep_congr (s := Finset.univ) (fun j _ => show St m c j (st3 0 0 0 0 j) = St m c j 0 from by rw [show st3 0 0 0 0 j = 0 from by revert j; decide])]
    simp only [St_0, later, at0, at1, bigSep_sep']
    isplitl [HtX Ha0]
    · isplitl [HtX]; · iexact HtX
      iexact Ha0
    isplitr [Hs Hu]
    · isplitl [Ha1 Hc1]
      · isplitl [Ha1]; · iexact Ha1
        iexact Hc1
      isplitl [HtY]; · iexact HtY
      isplitl [Ha2]; · iexact Ha2
      isplitl [Ha3 Hc3]
      · isplitl [Ha3]; · iexact Ha3
        iexact Hc3
      isplitl [Hzo]; · iexact Hzo
      iexact Ho
    isplitl [Hu]; · iexact Hu
    iexact Hs
  · simp only [none2, SlotSt_free, bigSep_sep']
    isplitl [Hzi]; · iexact Hzi
    isplitl [Hf]; · iexact Hf
    rw [bigSep_univ_two]
    isplitl [HxA]; · iexact HxA
    iexact HxB

theorem ow_end (c : Dev nD) : ow c 3 (fun _ => 12) = 0 := by
  unfold ow
  rw [if_neg (by decide), if_neg (by decide), Finset.sum_eq_zero fun j _ => if_neg (show ¬ 12 < 4 by decide),
    Finset.sum_eq_zero fun j _ => if_neg (show ¬ 12 < 8 by decide)]
  simp only [add_zero]

theorem last_state (K : Dev nD × CI → ℕ) (c : Dev nD) : Gst m K c 3 (st3 13 12 12 12) none2 ⊢ iprop(Φ₁ m c ∗ ∃ W, owes (c : Thread nD τ) 0 W) := by
  rw [show st3 13 12 12 12 = fun _ => 12 from funext (by decide)]
  unfold Gst
  rw [BarSt_3, ow_end]
  simp only [St_12, none2, SlotSt_free, bigSep_sep']
  refine (show _ ⊢ _ from ?_)
  iintro ⟨-, HO, HB, ⟨⟨Hz0, Hs⟩, ⟨Hz1, Hv⟩, ⟨Hz2, HuB⟩, ⟨Hz3, Ho'⟩, Hzo, Ho, HuA⟩, Hzi, Hf, Hx⟩
  isplitr [HO]; swap; · iexact HO
  unfold Φ₁ idle rest0
  isplitl [Hx Ho Ho']
  · isplitl [Hx]
    · iapply ((Entails.of_eq (bigSep_univ_two (fun s => ((xL c) ↦{qS s} X m c : sProp 𝕄)))).trans
        (share2 (F := F) (ℓ := xL c) (I := Finset.univ) (f := X m c)).2); iexact Hx
    iapply (out_split c (my c) (my_lt c) (outV m c)).2
    isplitl [Ho]
    · rw [show halfS (my c) = _ from (chunks_cover 8192 (my c * 4096)).symm,
        pointsTo_biUnion Finset.univ _ (fun i _ j _ hij => chunks_disjoint 8192 (my c * 4096) i j hij)]
      iexact Ho
    · rw [show halfS (1 - my c) = _ from (chunks_cover 8192 ((1 - my c) * 4096)).symm,
        pointsTo_biUnion Finset.univ _ (fun i _ j _ hij => chunks_disjoint 8192 ((1 - my c) * 4096) i j hij)]
      iexact Ho'
  isplitl [HB]; · iexact HB
  isplitl [Hzi Hzo Hz0 Hz1 Hz2 Hz3]
  · isplitl [Hzi Hzo]
    · isplitl [Hzi] <;> iassumption
    rw [bigSep_univ_prod, bigSep_fin4]
    isplitl [Hz0]; · iexact Hz0
    isplitl [Hz1]; · iexact Hz1
    isplitl [Hz2]; · iexact Hz2
    iexact Hz3
  unfold scr
  isplitl [Hf]
  · iapply (Ring.pointsTo_blocks_join_exists slotS slots_disjoint slots_cover (m (fL c))); iexact Hf
  isplitl [Hs]
  · iapply (Ring.pointsTo_blocks_join_exists chS chS_disjoint all_rows (m (sL c))); iexact Hs
  isplitl [Hv]
  · iexists (recvV m c)
    rw [← all_rows, pointsTo_biUnion Finset.univ _ (fun i _ j _ hij => chS_disjoint i j hij)]
    iexact Hv
  iexists (sumV m c)
  iapply (share2).2
  isplitl [HuA]
  · rw [← all_rows, pointsTo_biUnion Finset.univ _ (fun i _ j _ hij => chS_disjoint i j hij)]
    iexact HuA
  · rw [← all_rows, pointsTo_biUnion Finset.univ _ (fun i _ j _ hij => chS_disjoint i j hij)]
    iexact HuB

/-! ## The launch theorem's data -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = (BI.emp : sProp 𝕄) := by
  rw [show (Finset.univ : Finset (Fin cfg0.W)) = ∅ from rfl, BI.bigSep_empty]

def bodyPost (c : Dev nD) : sProp 𝕄 := iprop(Φ₁ m c ∗ (dats m 0 c).owesAt () t0_0.succ ∗ BI.emp)

theorem body_post (c : Dev nD) : iprop(Φ₁ m c ∗ ∃ W, owes (c : Thread nD τ) 0 W) ⊢ bodyPost m c := by
  unfold bodyPost Dat.owesAt Pipeline.owesWithin
  rw [show (dats m 0 c).owed t0_0.succ = 0 from rfl]
  iintro ⟨H, ⟨%W', HO⟩⟩
  isplitl [H]; · iexact H
  isplitl [HO]
  · iexists W'
    isplitr; · ipureintro; exact fun _ _ => Or.inl trivial
    iexact HO
  iempintro

/-- The kernel's run on device `c`, as the launch asks for it. -/
theorem body_obligation (c : Dev nD) : BodyObligation (dats (F := F) m 0 c) (defs₀ (F := F)) 𝒱₀ () Set.univ := fun t => by
  rw [fin_N0 t]
  rw [bigSep_W, bigSep_W]
  show iprop(Φ₀ m c ∗ (dats m 0 c).owesAt () t0_0.castSucc ∗ BI.emp) ⊢ wp frame (wpE (defs₀ (F := F)) 𝒱₀ (c : Thread nD τ) none) Set.univ
    (on (cc0_body (F := F))) (fun _ => bodyPost m c)
  unfold Dat.owesAt Pipeline.owesWithin
  rw [show (dats m 0 c).owed t0_0.castSucc = O₀ c from rfl]
  iintro ⟨HΦ, ⟨%W, -, HO⟩, -⟩
  ihave H := (first_state m c W) $$ [HΦ HO]
  · isplitl [HΦ] <;> iassumption
  icases H with ⟨%K, H⟩
  iapply (body_run m K c |>.trans (wp_mono _ _ _ (fun _ => (last_state m K c).trans (body_post m c))))
  iexact H

/-! ## The launch theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hlev]; · iexact Hlev
    isplitl [Hc]; · iexact Hc
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device keeps at the end, to be read off. -/
def kept (c : Dev nD) : sProp 𝕄 := iprop((((xL c) ↦{fullShare} X m c) ∗ ((oL c) ↦{fullShare} outV m c)) ∗ unscopedSems0 c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ kept scr
  rw [unscopedSems0_eq]
  iintro ⟨HM, HB, HI, HS⟩
  isplitl [HM HB]
  · isplitl [HM]; · iexact HM
    iexact HB
  isplitl [HI]; · iexact HI
  iexact HS

/-- What is read of a device at the end. -/
def Read (c : Dev nD) (s : MemSt nD τ sig (Elt F)) : Prop :=
  (s.mem (xL c) = X m c ∧ s.mem (oL c) = outV m c) ∧ ∀ sm : SemLoc sig, sm.isScoped .tc = false → s.sem ((c.tc : Thread nD τ), sm) = 0

theorem kept_read (c : Dev nD) (s' : Phys nD τ sig (Elt F)) :
    iprop(kept m c ∗ emp ∗ SI s') ⊢ |={Set.univ}=> iprop(⌜Read m c s'.mem⌝ ∗ SI s') := by
  unfold kept
  iintro ⟨⟨⟨Hx, Ho⟩, HU⟩, -, HSI⟩
  ihave Hr := (pointsTo_read_all (Finset.univ : Finset (Fin 1)) (fun _ => xL c) (fun _ => X m c) s') $$ [Hx HSI]
  · rw [show (Finset.univ : Finset (Fin 1)) = {0} from rfl, bigSep_singleton]
    isplitl [Hx] <;> iassumption
  icases Hr with ⟨%h1, HSI⟩
  ihave Hr := (pointsTo_read_all (Finset.univ : Finset (Fin 1)) (fun _ => oL c) (fun _ => outV m c) s') $$ [Ho HSI]
  · rw [show (Finset.univ : Finset (Fin 1)) = {0} from rfl, bigSep_singleton]
    isplitl [Ho] <;> iassumption
  icases Hr with ⟨%h2, HSI⟩
  imod (Pipeline.unscopedSems0_read (X := unscopedSems0 c) (c := c) fupd_intro s') $$ [HU HSI] with ⟨%h3, HSI⟩
  · isplitl [HU] <;> iassumption
  imodintro
  isplitr
  · ipureintro; exact ⟨⟨h1 0 (Finset.mem_univ _), h2 0 (Finset.mem_univ _)⟩, h3⟩
  iexact HSI

/-! ## The run -/

set_option maxRecDepth 8000 in
/-- From any memory with zero counters every weakly fair run of the four devices ends, with the argument unchanged, each
    device's result holding the sums of its mesh row's two blocks, and every semaphore at zero. -/
theorem run_main (ρ : Dev nD → PrngReg) : θ_run defs (onTc (τ := τ) (main (F := F))) ⟨m, fun _ => 0, ρ⟩
    (fun r => (∀ c : Dev nD, r.2.mem (xL c) = X m c ∧ r.2.mem (oL c) = outV m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := fun w => w.elim0) (hstage := fun w => w.elim0) (hshare := fun _ w => w.elim0)
    (hdistinct := fun w => w.elim0)
    (O₀ := O₀) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := kept m) (Z := fun _ => iprop(emp))
    (hX := start_intro m ρ) (hin := phi0_intro m) (hout := phi1_exit m)
    (QY := Read m)
    (hY := kept_read m)
    (hQ := fun _ h hs => ⟨fun c => ((h c).2.2).1, sem_eq_zero hs fun c => (h c).2.2.2⟩)

end Cert.KernelIdealProof
-- ==== Proof.ValueIdeal.lean ====
/-
# The value: each device's result is its block of the reference's sum

At the ideal instance a change of format is the identity and a sum is the sum of the extended reals. The reference adds
the two slices of the whole array along its first axis to zero. Device `c` holds slice `mx c`; its result holds the
columns `[1024 mx c, 1024 (mx c) + 1024)` of the sum of its own slice and of the other one. The two agree up to the order
of the two terms.
-/
module

public import proofs.«01_k».proof.Proof.ProtoIdeal
public import proofs.«01_k».proof.Proof.Gen.ReferenceIdeal.Run
public import Idealize.ShloMosaic.Lib.Layout
public import Idealize.ShloMosaic.Lib.Pointwise.Reduce
public import Idealize.ShloMosaic.Lib.IdealHost

@[expose] public section

noncomputable section

namespace Cert.KernelIdealProof

open Cert.KernelIdeal Cert.KernelIdeal.Gen

open Idealize.ShloMosaic
open Idealize.ShloMosaic.TcCoe
open Idealize.SL.Sem

/-- An index of the whole argument. -/
def wix (a r k : ℕ) : (⟨3, ![2, 8192, 2048]⟩ : Shape).Idx :=
  Idealize.ShloMosaic.ix3 (⟨a % 2, Nat.mod_lt _ (by decide)⟩ : Fin 2) (⟨r % 8192, Nat.mod_lt _ (by decide)⟩ : Fin 8192)
    (⟨k % 2048, Nat.mod_lt _ (by decide)⟩ : Fin 2048)

/-- What the reference computes of the whole argument. -/
def refV (w : (⟨3, ![2, 8192, 2048]⟩ : Shape).Idx → Elt Ideal .f32) : (⟨2, ![8192, 2048]⟩ : Shape).Idx → Elt Ideal .bf16 :=
  truncf (F := Ideal) .bf16 (Host.reduceAdd (F := Ideal) (φ := .f32) w (constant (F := Ideal) Cert.ReferenceIdeal.S_ .f32 0x00000000#32)
    Cert.ReferenceIdeal.Gen.reducesTo_S2x8192x2048_S8192x2048_d0 Cert.ReferenceIdeal.Gen.h_S_) Cert.ReferenceIdeal.Gen.bitsLt_bf16_f32

/-- The reference at an index: the sum of the two slices there. -/
theorem refV_apply (w : (⟨3, ![2, 8192, 2048]⟩ : Shape).Idx → EReal) (j : (⟨2, ![8192, 2048]⟩ : Shape).Idx) :
    refV w j = w (wix 0 (j 0).val (j 1).val) + w (wix 1 (j 0).val (j 1).val) := by
  have h0 := Ideal.hostReduceAdd_r3_a0 Cert.ReferenceIdeal.Gen.reducesTo_S2x8192x2048_S8192x2048_d0 w
    (Ideal.ofBits .f32 0x00000000#32) j
  refine Eq.trans (b := Ideal.hostReduceAdd Cert.ReferenceIdeal.Gen.reducesTo_S2x8192x2048_S8192x2048_d0 w
    (Ideal.ofBits .f32 0x00000000#32) j) rfl (h0.trans ?_)
  rw [Ideal.ofBits_zero_f32, zero_add, Fin.sum_univ_two]
  have hr : (j 0).val < 8192 := (j 0).isLt
  have hk : (j 1).val < 2048 := (j 1).isLt
  refine congrArg₂ (fun x y : EReal => x + y) (congrArg w (funext fun b => Fin.ext ?_)) (congrArg w (funext fun b => Fin.ext ?_)) <;>
    fin_cases b
  · rfl
  · exact (Nat.mod_eq_of_lt hr).symm
  · exact (Nat.mod_eq_of_lt hk).symm
  · rfl
  · exact (Nat.mod_eq_of_lt hr).symm
  · exact (Nat.mod_eq_of_lt hk).symm

variable (m : (ℓ : Loc nD τ sig) → Buf (Elt Ideal) ℓ)
variable (w : (⟨3, ![2, 8192, 2048]⟩ : Shape).Idx → Elt Ideal .f32)

/-- Device `c` holds slice `mx c` of the whole argument. -/
theorem X_apply (h : ∀ c : Dev nD, m (xL c) = Layout.blockN ⟨3, ![1, 8192, 2048]⟩ ⟨3, ![2, 8192, 2048]⟩ (Layout.meshBlock [2, 2] ![[0], [], []] c) w)
    (c : Dev nD) (r k : ℕ) : X m c (ix3 r k) = w (wix (mx c) r k) := by
  unfold X
  rw [h c, Layout.blockN_apply]
  congr 1
  funext b
  apply Fin.ext
  rw [Layout.TilesN.idx_val]
  have hc : c.val < 4 := c.isLt
  fin_cases b
  · show (c.val / 2 % 2 * 1 + 0) * 1 + 0 = mx c % 2
    unfold mx; omega
  · show 0 * 8192 + r % 8192 = r % 8192
    omega
  · show 0 * 2048 + k % 2048 = k % 2048
    omega

/-- The result of device `c` at an index: the sum of its slice and of the other one there. -/
theorem outV_apply (h : ∀ c : Dev nD, m (xL c) = Layout.blockN ⟨3, ![1, 8192, 2048]⟩ ⟨3, ![2, 8192, 2048]⟩ (Layout.meshBlock [2, 2] ![[0], [], []] c) w)
    (c : Dev nD) (x : S8192x1024.Idx) :
    outV m c x = (w (wix (mx c) (x 0).val (mx c * 1024 + (x 1).val)) : EReal) + w (wix (1 - mx c) (x 0).val (mx c * 1024 + (x 1).val)) := by
  have hr : (x 0).val < 8192 := (x 0).isLt
  have hk : (x 1).val < 1024 := (x 1).isLt
  have hm : mx c < 2 := mx_lt c
  have hX : ∀ (d : Dev nD) (a : ℕ) (y : S4096x1024.Idx), part m d a y = w (wix (mx d) (my d * 4096 + (y 0).val) (a * 1024 + (y 1).val)) :=
    fun d a y => X_apply m w h d _ _
  have h1 : mx (dv (mx c) ((x 0).val / 4096)) = mx c := by unfold dv; unfold mx at hm ⊢; dsimp only; omega
  have h2 : my (dv (mx c) ((x 0).val / 4096)) = (x 0).val / 4096 := by unfold dv my; dsimp only; omega
  show (part m _ (mx _) _ : EReal) + part m (pX _) (1 - mx (pX _)) _ = _
  rw [hX, hX, mx_pX, my_pX, h1, h2]
  have e0 : (ix2 (x 0).val (x 1).val 0).val = (x 0).val % 4096 := rfl
  have e1 : (ix2 (x 0).val (x 1).val 1).val = (x 1).val % 1024 := rfl
  rw [e0, e1, show (x 0).val / 4096 * 4096 + (x 0).val % 4096 = (x 0).val by omega, Nat.mod_eq_of_lt hk,
    show 1 - (1 - mx c) = mx c by omega]

/-- The result of device `c` is its block of the reference's result. -/
theorem outV_eq (h : ∀ c : Dev nD, m (xL c) = Layout.blockN ⟨3, ![1, 8192, 2048]⟩ ⟨3, ![2, 8192, 2048]⟩ (Layout.meshBlock [2, 2] ![[0], [], []] c) w)
    (c : Dev nD) :
    outV m c = Layout.blockN ⟨2, ![8192, 1024]⟩ ⟨2, ![8192, 2048]⟩ (Layout.meshBlock [2, 2] ![[], [0]] c) (refV w) := by
  funext x
  have hc : c.val < 4 := c.isLt
  have hm : mx c = 0 ∨ mx c = 1 := by unfold mx; omega
  have key : ∀ j : (⟨2, ![8192, 2048]⟩ : Shape).Idx, (j 0).val = (x 0).val → (j 1).val = mx c * 1024 + (x 1).val →
      outV m c x = refV w j := by
    intro j h0 h1
    rw [outV_apply m w h, refV_apply, h0, h1]
    rcases hm with hm | hm <;> rw [hm]
    exact add_comm (G := EReal) _ _
  refine key _ ?_ ?_
  · rw [Layout.TilesN.idx_val]
    show 0 * 8192 + (x 0).val = (x 0).val
    omega
  · rw [Layout.TilesN.idx_val]
    show (c.val / 2 % 2 * 1 + 0) * 1024 + (x 1).val = mx c * 1024 + (x 1).val
    unfold mx; omega

end Cert.KernelIdealProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.ValueIdeal
public import Idealize.ShloMosaic.Adequacy
public import Idealize.ShloMosaic.Init

@[expose] public section

noncomputable section

namespace Cert.Proof

open Idealize.ShloMosaic Idealize.SL.Sem Cert.Kernel

/-- The kernel's run leaves the argument and every counter as they were. -/
theorem frame_p : Cert.quiescent_Kernel := by
  intro m ρ _
  exact (θ_run Cert.Kernel.defs _ _).mono (fun _ h => ⟨fun c => (h.1 c).1, h.2⟩) (Cert.KernelProof.run_main (F := Bits) m ρ)

/-- The same at the ideal instance. -/
theorem frame_pi : Cert.quiescent_KernelIdeal := by
  intro m ρ _
  exact (θ_run Cert.KernelIdeal.defs _ _).mono (fun _ h => ⟨fun c => (h.1 c).1, h.2⟩)
    (Cert.KernelIdealProof.run_main (F := Ideal) m ρ)

/-- The reference is three host operations; it declares no semaphore. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's result. -/
theorem algebraic : Cert.algebraic_KernelIdeal_ReferenceIdeal := by
  intro m ρ m' ρ' _ h
  refine ⟨Cert.KernelIdealProof.refV (m' (((0 : Dev Cert.ReferenceIdeal.nD).tc : Thread _ Cert.ReferenceIdeal.τ).loc Cert.ReferenceIdeal.main_arg0)),
    ?_, ?_⟩
  · exact (θ_run Cert.KernelIdeal.defs _ _).mono
      (fun _ hr c => ⟨(hr.1 c).2.trans (Cert.KernelIdealProof.outV_eq m _ h c), (hr.1 c).1⟩)
      (Cert.KernelIdealProof.run_main (F := Ideal) m ρ)
  · exact (θ_run Cert.ReferenceIdeal.defs _ _).mono (fun _ hr => hr 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, algebraic⟩

end Cert.Proof

end
